-- ==== Defs.lean ====
def Pre_MaskGather [hPre_in_range : Cert.Pre_in_range.Facts] (m : (ℓ : Loc Cert.MaskGather.nD Cert.MaskGather.τ Cert.MaskGather.sig) → Buf (Elt Bits) ℓ) : Prop :=
  ∀ c : Dev Cert.MaskGather.nD,
    (Cert.Pre_in_range.fn (F := Bits) (m ((c.tc : Thread Cert.MaskGather.nD Cert.MaskGather.τ).loc Cert.MaskGather.main_arg0)) (m ((c.tc : Thread Cert.MaskGather.nD Cert.MaskGather.τ).loc Cert.MaskGather.main_arg1)) (m ((c.tc : Thread Cert.MaskGather.nD Cert.MaskGather.τ).loc Cert.MaskGather.main_arg2))) = (fun _ => 1#1)

def Pre_MaskGatherIdeal [hPre_in_range : Cert.Pre_in_range.Facts] (m : (ℓ : Loc Cert.MaskGatherIdeal.nD Cert.MaskGatherIdeal.τ Cert.MaskGatherIdeal.sig) → Buf (Elt Ideal) ℓ) : Prop :=
  ∀ c : Dev Cert.MaskGatherIdeal.nD,
    (Cert.Pre_in_range.fn (F := Ideal) (m ((c.tc : Thread Cert.MaskGatherIdeal.nD Cert.MaskGatherIdeal.τ).loc Cert.MaskGatherIdeal.main_arg0)) (m ((c.tc : Thread Cert.MaskGatherIdeal.nD Cert.MaskGatherIdeal.τ).loc Cert.MaskGatherIdeal.main_arg1)) (m ((c.tc : Thread Cert.MaskGatherIdeal.nD Cert.MaskGatherIdeal.τ).loc Cert.MaskGatherIdeal.main_arg2))) = (fun _ => 1#1)

def Pre_MaskRowsIdeal (m : (ℓ : Loc Cert.MaskRowsIdeal.nD Cert.MaskRowsIdeal.τ Cert.MaskRowsIdeal.sig) → Buf (Elt Ideal) ℓ) : Prop :=
  True

def Pre_MaskRowsIdeal_in_range [hPre_in_range : Cert.Pre_in_range.Facts] (m : (ℓ : Loc Cert.MaskRowsIdeal.nD Cert.MaskRowsIdeal.τ Cert.MaskRowsIdeal.sig) → Buf (Elt Ideal) ℓ) : Prop :=
  ∀ c : Dev Cert.MaskRowsIdeal.nD,
    (Cert.Pre_in_range.fn (F := Ideal) (m ((c.tc : Thread Cert.MaskRowsIdeal.nD Cert.MaskRowsIdeal.τ).loc Cert.MaskRowsIdeal.main_arg0)) (m ((c.tc : Thread Cert.MaskRowsIdeal.nD Cert.MaskRowsIdeal.τ).loc Cert.MaskRowsIdeal.main_arg1)) (m ((c.tc : Thread Cert.MaskRowsIdeal.nD Cert.MaskRowsIdeal.τ).loc Cert.MaskRowsIdeal.main_arg2))) = (fun _ => 1#1)

def Pre_NmsSort (m : (ℓ : Loc Cert.NmsSort.nD Cert.NmsSort.τ Cert.NmsSort.sig) → Buf (Elt Bits) ℓ) : Prop :=
  True

def Pre_NmsSortIdeal (m : (ℓ : Loc Cert.NmsSortIdeal.nD Cert.NmsSortIdeal.τ Cert.NmsSortIdeal.sig) → Buf (Elt Ideal) ℓ) : Prop :=
  True

def Pre_SortedNmsIdeal (m : (ℓ : Loc Cert.SortedNmsIdeal.nD Cert.SortedNmsIdeal.τ Cert.SortedNmsIdeal.sig) → Buf (Elt Ideal) ℓ) : Prop :=
  True

def quiescent_MaskGather [hMaskGather : Cert.MaskGather.Facts] [hPre_in_range : Cert.Pre_in_range.Facts] : Prop :=
  ∀ (m : (ℓ : Loc Cert.MaskGather.nD Cert.MaskGather.τ Cert.MaskGather.sig) → Buf (Elt Bits) ℓ) (g : Dev Cert.MaskGather.nD → PrngReg), Pre_MaskGather m →
    θ_run (Cert.MaskGather.defs (F := Bits)) (onTc (τ := Cert.MaskGather.τ) (Cert.MaskGather.main (F := Bits))) ⟨m, fun _ => 0, g⟩ (fun r => (∀ c : Dev Cert.MaskGather.nD,
      r.2.mem ((c.tc : Thread Cert.MaskGather.nD Cert.MaskGather.τ).loc Cert.MaskGather.main_arg0) = m ((c.tc : Thread Cert.MaskGather.nD Cert.MaskGather.τ).loc Cert.MaskGather.main_arg0)
      ∧ r.2.mem ((c.tc : Thread Cert.MaskGather.nD Cert.MaskGather.τ).loc Cert.MaskGather.main_arg1) = m ((c.tc : Thread Cert.MaskGather.nD Cert.MaskGather.τ).loc Cert.MaskGather.main_arg1)
      ∧ r.2.mem ((c.tc : Thread Cert.MaskGather.nD Cert.MaskGather.τ).loc Cert.MaskGather.main_arg2) = m ((c.tc : Thread Cert.MaskGather.nD Cert.MaskGather.τ).loc Cert.MaskGather.main_arg2))
      ∧ r.2.sem = fun _ => 0)

def quiescent_MaskGatherIdeal [hMaskGatherIdeal : Cert.MaskGatherIdeal.Facts] [hPre_in_range : Cert.Pre_in_range.Facts] : Prop :=
  ∀ (m : (ℓ : Loc Cert.MaskGatherIdeal.nD Cert.MaskGatherIdeal.τ Cert.MaskGatherIdeal.sig) → Buf (Elt Ideal) ℓ) (g : Dev Cert.MaskGatherIdeal.nD → PrngReg), Pre_MaskGatherIdeal m →
    θ_run (Cert.MaskGatherIdeal.defs (F := Ideal)) (onTc (τ := Cert.MaskGatherIdeal.τ) (Cert.MaskGatherIdeal.main (F := Ideal))) ⟨m, fun _ => 0, g⟩ (fun r => (∀ c : Dev Cert.MaskGatherIdeal.nD,
      r.2.mem ((c.tc : Thread Cert.MaskGatherIdeal.nD Cert.MaskGatherIdeal.τ).loc Cert.MaskGatherIdeal.main_arg0) = m ((c.tc : Thread Cert.MaskGatherIdeal.nD Cert.MaskGatherIdeal.τ).loc Cert.MaskGatherIdeal.main_arg0)
      ∧ r.2.mem ((c.tc : Thread Cert.MaskGatherIdeal.nD Cert.MaskGatherIdeal.τ).loc Cert.MaskGatherIdeal.main_arg1) = m ((c.tc : Thread Cert.MaskGatherIdeal.nD Cert.MaskGatherIdeal.τ).loc Cert.MaskGatherIdeal.main_arg1)
      ∧ r.2.mem ((c.tc : Thread Cert.MaskGatherIdeal.nD Cert.MaskGatherIdeal.τ).loc Cert.MaskGatherIdeal.main_arg2) = m ((c.tc : Thread Cert.MaskGatherIdeal.nD Cert.MaskGatherIdeal.τ).loc Cert.MaskGatherIdeal.main_arg2))
      ∧ r.2.sem = fun _ => 0)

def quiescent_MaskRowsIdeal [hMaskRowsIdeal : Cert.MaskRowsIdeal.Facts] : Prop :=
  ∀ (m : (ℓ : Loc Cert.MaskRowsIdeal.nD Cert.MaskRowsIdeal.τ Cert.MaskRowsIdeal.sig) → Buf (Elt Ideal) ℓ) (g : Dev Cert.MaskRowsIdeal.nD → PrngReg), Pre_MaskRowsIdeal m →
    θ_run (Cert.MaskRowsIdeal.defs (F := Ideal)) (onTc (τ := Cert.MaskRowsIdeal.τ) (Cert.MaskRowsIdeal.main (F := Ideal))) ⟨m, fun _ => 0, g⟩ (fun r => (∀ c : Dev Cert.MaskRowsIdeal.nD,
      r.2.mem ((c.tc : Thread Cert.MaskRowsIdeal.nD Cert.MaskRowsIdeal.τ).loc Cert.MaskRowsIdeal.main_arg0) = m ((c.tc : Thread Cert.MaskRowsIdeal.nD Cert.MaskRowsIdeal.τ).loc Cert.MaskRowsIdeal.main_arg0)
      ∧ r.2.mem ((c.tc : Thread Cert.MaskRowsIdeal.nD Cert.MaskRowsIdeal.τ).loc Cert.MaskRowsIdeal.main_arg1) = m ((c.tc : Thread Cert.MaskRowsIdeal.nD Cert.MaskRowsIdeal.τ).loc Cert.MaskRowsIdeal.main_arg1)
      ∧ r.2.mem ((c.tc : Thread Cert.MaskRowsIdeal.nD Cert.MaskRowsIdeal.τ).loc Cert.MaskRowsIdeal.main_arg2) = m ((c.tc : Thread Cert.MaskRowsIdeal.nD Cert.MaskRowsIdeal.τ).loc Cert.MaskRowsIdeal.main_arg2))
      ∧ r.2.sem = fun _ => 0)

def quiescent_MaskRowsIdeal_pre_in_range [hMaskRowsIdeal : Cert.MaskRowsIdeal.Facts] [hPre_in_range : Cert.Pre_in_range.Facts] : Prop :=
  ∀ (m : (ℓ : Loc Cert.MaskRowsIdeal.nD Cert.MaskRowsIdeal.τ Cert.MaskRowsIdeal.sig) → Buf (Elt Ideal) ℓ) (g : Dev Cert.MaskRowsIdeal.nD → PrngReg), Pre_MaskRowsIdeal_in_range m →
    θ_run (Cert.MaskRowsIdeal.defs (F := Ideal)) (onTc (τ := Cert.MaskRowsIdeal.τ) (Cert.MaskRowsIdeal.main (F := Ideal))) ⟨m, fun _ => 0, g⟩ (fun r => (∀ c : Dev Cert.MaskRowsIdeal.nD,
      r.2.mem ((c.tc : Thread Cert.MaskRowsIdeal.nD Cert.MaskRowsIdeal.τ).loc Cert.MaskRowsIdeal.main_arg0) = m ((c.tc : Thread Cert.MaskRowsIdeal.nD Cert.MaskRowsIdeal.τ).loc Cert.MaskRowsIdeal.main_arg0)
      ∧ r.2.mem ((c.tc : Thread Cert.MaskRowsIdeal.nD Cert.MaskRowsIdeal.τ).loc Cert.MaskRowsIdeal.main_arg1) = m ((c.tc : Thread Cert.MaskRowsIdeal.nD Cert.MaskRowsIdeal.τ).loc Cert.MaskRowsIdeal.main_arg1)
      ∧ r.2.mem ((c.tc : Thread Cert.MaskRowsIdeal.nD Cert.MaskRowsIdeal.τ).loc Cert.MaskRowsIdeal.main_arg2) = m ((c.tc : Thread Cert.MaskRowsIdeal.nD Cert.MaskRowsIdeal.τ).loc Cert.MaskRowsIdeal.main_arg2))
      ∧ r.2.sem = fun _ => 0)

def quiescent_NmsSort [hNmsSort : Cert.NmsSort.Facts] : Prop :=
  ∀ (m : (ℓ : Loc Cert.NmsSort.nD Cert.NmsSort.τ Cert.NmsSort.sig) → Buf (Elt Bits) ℓ) (g : Dev Cert.NmsSort.nD → PrngReg), Pre_NmsSort m →
    θ_run (Cert.NmsSort.defs (F := Bits)) (onTc (τ := Cert.NmsSort.τ) (Cert.NmsSort.main (F := Bits))) ⟨m, fun _ => 0, g⟩ (fun r => (∀ c : Dev Cert.NmsSort.nD,
      r.2.mem ((c.tc : Thread Cert.NmsSort.nD Cert.NmsSort.τ).loc Cert.NmsSort.main_arg0) = m ((c.tc : Thread Cert.NmsSort.nD Cert.NmsSort.τ).loc Cert.NmsSort.main_arg0)
      ∧ r.2.mem ((c.tc : Thread Cert.NmsSort.nD Cert.NmsSort.τ).loc Cert.NmsSort.main_arg1) = m ((c.tc : Thread Cert.NmsSort.nD Cert.NmsSort.τ).loc Cert.NmsSort.main_arg1)
      ∧ r.2.mem ((c.tc : Thread Cert.NmsSort.nD Cert.NmsSort.τ).loc Cert.NmsSort.main_arg2) = m ((c.tc : Thread Cert.NmsSort.nD Cert.NmsSort.τ).loc Cert.NmsSort.main_arg2))
      ∧ r.2.sem = fun _ => 0)

def quiescent_NmsSortIdeal [hNmsSortIdeal : Cert.NmsSortIdeal.Facts] : Prop :=
  ∀ (m : (ℓ : Loc Cert.NmsSortIdeal.nD Cert.NmsSortIdeal.τ Cert.NmsSortIdeal.sig) → Buf (Elt Ideal) ℓ) (g : Dev Cert.NmsSortIdeal.nD → PrngReg), Pre_NmsSortIdeal m →
    θ_run (Cert.NmsSortIdeal.defs (F := Ideal)) (onTc (τ := Cert.NmsSortIdeal.τ) (Cert.NmsSortIdeal.main (F := Ideal))) ⟨m, fun _ => 0, g⟩ (fun r => (∀ c : Dev Cert.NmsSortIdeal.nD,
      r.2.mem ((c.tc : Thread Cert.NmsSortIdeal.nD Cert.NmsSortIdeal.τ).loc Cert.NmsSortIdeal.main_arg0) = m ((c.tc : Thread Cert.NmsSortIdeal.nD Cert.NmsSortIdeal.τ).loc Cert.NmsSortIdeal.main_arg0)
      ∧ r.2.mem ((c.tc : Thread Cert.NmsSortIdeal.nD Cert.NmsSortIdeal.τ).loc Cert.NmsSortIdeal.main_arg1) = m ((c.tc : Thread Cert.NmsSortIdeal.nD Cert.NmsSortIdeal.τ).loc Cert.NmsSortIdeal.main_arg1)
      ∧ r.2.mem ((c.tc : Thread Cert.NmsSortIdeal.nD Cert.NmsSortIdeal.τ).loc Cert.NmsSortIdeal.main_arg2) = m ((c.tc : Thread Cert.NmsSortIdeal.nD Cert.NmsSortIdeal.τ).loc Cert.NmsSortIdeal.main_arg2))
      ∧ r.2.sem = fun _ => 0)

def quiescent_SortedNmsIdeal [hSortedNmsIdeal : Cert.SortedNmsIdeal.Facts] : Prop :=
  ∀ (m : (ℓ : Loc Cert.SortedNmsIdeal.nD Cert.SortedNmsIdeal.τ Cert.SortedNmsIdeal.sig) → Buf (Elt Ideal) ℓ) (g : Dev Cert.SortedNmsIdeal.nD → PrngReg), Pre_SortedNmsIdeal m →
    θ_run (Cert.SortedNmsIdeal.defs (F := Ideal)) (onTc (τ := Cert.SortedNmsIdeal.τ) (Cert.SortedNmsIdeal.main (F := Ideal))) ⟨m, fun _ => 0, g⟩ (fun r => (∀ c : Dev Cert.SortedNmsIdeal.nD,
      r.2.mem ((c.tc : Thread Cert.SortedNmsIdeal.nD Cert.SortedNmsIdeal.τ).loc Cert.SortedNmsIdeal.main_arg0) = m ((c.tc : Thread Cert.SortedNmsIdeal.nD Cert.SortedNmsIdeal.τ).loc Cert.SortedNmsIdeal.main_arg0)
      ∧ r.2.mem ((c.tc : Thread Cert.SortedNmsIdeal.nD Cert.SortedNmsIdeal.τ).loc Cert.SortedNmsIdeal.main_arg1) = m ((c.tc : Thread Cert.SortedNmsIdeal.nD Cert.SortedNmsIdeal.τ).loc Cert.SortedNmsIdeal.main_arg1)
      ∧ r.2.mem ((c.tc : Thread Cert.SortedNmsIdeal.nD Cert.SortedNmsIdeal.τ).loc Cert.SortedNmsIdeal.main_arg2) = m ((c.tc : Thread Cert.SortedNmsIdeal.nD Cert.SortedNmsIdeal.τ).loc Cert.SortedNmsIdeal.main_arg2))
      ∧ r.2.sem = fun _ => 0)

def preserves_MaskGather_MaskGatherIdeal : Prop :=
  True

def algebraic_MaskGatherIdeal_MaskRowsIdeal [hMaskGatherIdeal : Cert.MaskGatherIdeal.Facts] [hMaskRowsIdeal : Cert.MaskRowsIdeal.Facts] [hPre_in_range : Cert.Pre_in_range.Facts] : Prop :=
  ∀ (m : (ℓ : Loc Cert.MaskGatherIdeal.nD Cert.MaskGatherIdeal.τ Cert.MaskGatherIdeal.sig) → Buf (Elt Ideal) ℓ) (g : Dev Cert.MaskGatherIdeal.nD → PrngReg)
    (m' : (ℓ : Loc Cert.MaskRowsIdeal.nD Cert.MaskRowsIdeal.τ Cert.MaskRowsIdeal.sig) → Buf (Elt Ideal) ℓ) (g' : Dev Cert.MaskRowsIdeal.nD → PrngReg), Pre_MaskGatherIdeal m →
    (∀ c : Dev Cert.MaskGatherIdeal.nD,
      m' ((c.tc : Thread Cert.MaskRowsIdeal.nD Cert.MaskRowsIdeal.τ).loc Cert.MaskRowsIdeal.main_arg0) = m ((c.tc : Thread Cert.MaskGatherIdeal.nD Cert.MaskGatherIdeal.τ).loc Cert.MaskGatherIdeal.main_arg0)
      ∧ m' ((c.tc : Thread Cert.MaskRowsIdeal.nD Cert.MaskRowsIdeal.τ).loc Cert.MaskRowsIdeal.main_arg1) = m ((c.tc : Thread Cert.MaskGatherIdeal.nD Cert.MaskGatherIdeal.τ).loc Cert.MaskGatherIdeal.main_arg1)
      ∧ m' ((c.tc : Thread Cert.MaskRowsIdeal.nD Cert.MaskRowsIdeal.τ).loc Cert.MaskRowsIdeal.main_arg2) = m ((c.tc : Thread Cert.MaskGatherIdeal.nD Cert.MaskGatherIdeal.τ).loc Cert.MaskGatherIdeal.main_arg2)) →
    ∃ (v0 : (c : Dev Cert.MaskGatherIdeal.nD) → Buf (Elt Ideal) ((c.tc : Thread Cert.MaskGatherIdeal.nD Cert.MaskGatherIdeal.τ).loc Cert.MaskGatherIdeal.main_v0)),
      θ_run (Cert.MaskGatherIdeal.defs (F := Ideal)) (onTc (τ := Cert.MaskGatherIdeal.τ) (Cert.MaskGatherIdeal.main (F := Ideal))) ⟨m, fun _ => 0, g⟩ (fun r => ∀ c : Dev Cert.MaskGatherIdeal.nD,
          r.2.mem ((c.tc : Thread Cert.MaskGatherIdeal.nD Cert.MaskGatherIdeal.τ).loc Cert.MaskGatherIdeal.main_v0) = v0 c
          ∧ r.2.mem ((c.tc : Thread Cert.MaskGatherIdeal.nD Cert.MaskGatherIdeal.τ).loc Cert.MaskGatherIdeal.main_arg0) = m ((c.tc : Thread Cert.MaskGatherIdeal.nD Cert.MaskGatherIdeal.τ).loc Cert.MaskGatherIdeal.main_arg0)
          ∧ r.2.mem ((c.tc : Thread Cert.MaskGatherIdeal.nD Cert.MaskGatherIdeal.τ).loc Cert.MaskGatherIdeal.main_arg1) = m ((c.tc : Thread Cert.MaskGatherIdeal.nD Cert.MaskGatherIdeal.τ).loc Cert.MaskGatherIdeal.main_arg1)
          ∧ r.2.mem ((c.tc : Thread Cert.MaskGatherIdeal.nD Cert.MaskGatherIdeal.τ).loc Cert.MaskGatherIdeal.main_arg2) = m ((c.tc : Thread Cert.MaskGatherIdeal.nD Cert.MaskGatherIdeal.τ).loc Cert.MaskGatherIdeal.main_arg2))
      ∧ θ_run (Cert.MaskRowsIdeal.defs (F := Ideal)) (onTc (τ := Cert.MaskRowsIdeal.τ) (Cert.MaskRowsIdeal.main (F := Ideal))) ⟨m', fun _ => 0, g'⟩ (fun r => ∀ c : Dev Cert.MaskRowsIdeal.nD,
          r.2.mem ((c.tc : Thread Cert.MaskRowsIdeal.nD Cert.MaskRowsIdeal.τ).loc Cert.MaskRowsIdeal.main_v10) = v0 c
          ∧ r.2.mem ((c.tc : Thread Cert.MaskRowsIdeal.nD Cert.MaskRowsIdeal.τ).loc Cert.MaskRowsIdeal.main_arg0) = m' ((c.tc : Thread Cert.MaskRowsIdeal.nD Cert.MaskRowsIdeal.τ).loc Cert.MaskRowsIdeal.main_arg0)
          ∧ r.2.mem ((c.tc : Thread Cert.MaskRowsIdeal.nD Cert.MaskRowsIdeal.τ).loc Cert.MaskRowsIdeal.main_arg1) = m' ((c.tc : Thread Cert.MaskRowsIdeal.nD Cert.MaskRowsIdeal.τ).loc Cert.MaskRowsIdeal.main_arg1)
          ∧ r.2.mem ((c.tc : Thread Cert.MaskRowsIdeal.nD Cert.MaskRowsIdeal.τ).loc Cert.MaskRowsIdeal.main_arg2) = m' ((c.tc : Thread Cert.MaskRowsIdeal.nD Cert.MaskRowsIdeal.τ).loc Cert.MaskRowsIdeal.main_arg2))

def preserves_NmsSort_NmsSortIdeal : Prop :=
  True

def algebraic_NmsSortIdeal_SortedNmsIdeal [hNmsSortIdeal : Cert.NmsSortIdeal.Facts] [hSortedNmsIdeal : Cert.SortedNmsIdeal.Facts] : Prop :=
  ∀ (m : (ℓ : Loc Cert.NmsSortIdeal.nD Cert.NmsSortIdeal.τ Cert.NmsSortIdeal.sig) → Buf (Elt Ideal) ℓ) (g : Dev Cert.NmsSortIdeal.nD → PrngReg)
    (m' : (ℓ : Loc Cert.SortedNmsIdeal.nD Cert.SortedNmsIdeal.τ Cert.SortedNmsIdeal.sig) → Buf (Elt Ideal) ℓ) (g' : Dev Cert.SortedNmsIdeal.nD → PrngReg), Pre_NmsSortIdeal m →
    (∀ c : Dev Cert.NmsSortIdeal.nD,
      m' ((c.tc : Thread Cert.SortedNmsIdeal.nD Cert.SortedNmsIdeal.τ).loc Cert.SortedNmsIdeal.main_arg0) = m ((c.tc : Thread Cert.NmsSortIdeal.nD Cert.NmsSortIdeal.τ).loc Cert.NmsSortIdeal.main_arg0)
      ∧ m' ((c.tc : Thread Cert.SortedNmsIdeal.nD Cert.SortedNmsIdeal.τ).loc Cert.SortedNmsIdeal.main_arg1) = m ((c.tc : Thread Cert.NmsSortIdeal.nD Cert.NmsSortIdeal.τ).loc Cert.NmsSortIdeal.main_arg1)
      ∧ m' ((c.tc : Thread Cert.SortedNmsIdeal.nD Cert.SortedNmsIdeal.τ).loc Cert.SortedNmsIdeal.main_arg2) = m ((c.tc : Thread Cert.NmsSortIdeal.nD Cert.NmsSortIdeal.τ).loc Cert.NmsSortIdeal.main_arg2)) →
    ∃ (v0 : (c : Dev Cert.NmsSortIdeal.nD) → Buf (Elt Ideal) ((c.tc : Thread Cert.NmsSortIdeal.nD Cert.NmsSortIdeal.τ).loc Cert.NmsSortIdeal.main_v3_0)) (v1 : (c : Dev Cert.NmsSortIdeal.nD) → Buf (Elt Ideal) ((c.tc : Thread Cert.NmsSortIdeal.nD Cert.NmsSortIdeal.τ).loc Cert.NmsSortIdeal.main_v3_1)) (v2 : (c : Dev Cert.NmsSortIdeal.nD) → Buf (Elt Ideal) ((c.tc : Thread Cert.NmsSortIdeal.nD Cert.NmsSortIdeal.τ).loc Cert.NmsSortIdeal.main_v3_2)) (v3 : (c : Dev Cert.NmsSortIdeal.nD) → Buf (Elt Ideal) ((c.tc : Thread Cert.NmsSortIdeal.nD Cert.NmsSortIdeal.τ).loc Cert.NmsSortIdeal.main_v6)),
      θ_run (Cert.NmsSortIdeal.defs (F := Ideal)) (onTc (τ := Cert.NmsSortIdeal.τ) (Cert.NmsSortIdeal.main (F := Ideal))) ⟨m, fun _ => 0, g⟩ (fun r => ∀ c : Dev Cert.NmsSortIdeal.nD,
          r.2.mem ((c.tc : Thread Cert.NmsSortIdeal.nD Cert.NmsSortIdeal.τ).loc Cert.NmsSortIdeal.main_v3_0) = v0 c
          ∧ r.2.mem ((c.tc : Thread Cert.NmsSortIdeal.nD Cert.NmsSortIdeal.τ).loc Cert.NmsSortIdeal.main_v3_1) = v1 c
          ∧ r.2.mem ((c.tc : Thread Cert.NmsSortIdeal.nD Cert.NmsSortIdeal.τ).loc Cert.NmsSortIdeal.main_v3_2) = v2 c
          ∧ r.2.mem ((c.tc : Thread Cert.NmsSortIdeal.nD Cert.NmsSortIdeal.τ).loc Cert.NmsSortIdeal.main_v6) = v3 c
          ∧ r.2.mem ((c.tc : Thread Cert.NmsSortIdeal.nD Cert.NmsSortIdeal.τ).loc Cert.NmsSortIdeal.main_arg0) = m ((c.tc : Thread Cert.NmsSortIdeal.nD Cert.NmsSortIdeal.τ).loc Cert.NmsSortIdeal.main_arg0)
          ∧ r.2.mem ((c.tc : Thread Cert.NmsSortIdeal.nD Cert.NmsSortIdeal.τ).loc Cert.NmsSortIdeal.main_arg1) = m ((c.tc : Thread Cert.NmsSortIdeal.nD Cert.NmsSortIdeal.τ).loc Cert.NmsSortIdeal.main_arg1)
          ∧ r.2.mem ((c.tc : Thread Cert.NmsSortIdeal.nD Cert.NmsSortIdeal.τ).loc Cert.NmsSortIdeal.main_arg2) = m ((c.tc : Thread Cert.NmsSortIdeal.nD Cert.NmsSortIdeal.τ).loc Cert.NmsSortIdeal.main_arg2))
      ∧ θ_run (Cert.SortedNmsIdeal.defs (F := Ideal)) (onTc (τ := Cert.SortedNmsIdeal.τ) (Cert.SortedNmsIdeal.main (F := Ideal))) ⟨m', fun _ => 0, g'⟩ (fun r => ∀ c : Dev Cert.SortedNmsIdeal.nD,
          r.2.mem ((c.tc : Thread Cert.SortedNmsIdeal.nD Cert.SortedNmsIdeal.τ).loc Cert.SortedNmsIdeal.main_v73) = v0 c
          ∧ r.2.mem ((c.tc : Thread Cert.SortedNmsIdeal.nD Cert.SortedNmsIdeal.τ).loc Cert.SortedNmsIdeal.main_v78) = v1 c
          ∧ r.2.mem ((c.tc : Thread Cert.SortedNmsIdeal.nD Cert.SortedNmsIdeal.τ).loc Cert.SortedNmsIdeal.main_v79) = v2 c
          ∧ r.2.mem ((c.tc : Thread Cert.SortedNmsIdeal.nD Cert.SortedNmsIdeal.τ).loc Cert.SortedNmsIdeal.main_v80) = v3 c
          ∧ r.2.mem ((c.tc : Thread Cert.SortedNmsIdeal.nD Cert.SortedNmsIdeal.τ).loc Cert.SortedNmsIdeal.main_arg0) = m' ((c.tc : Thread Cert.SortedNmsIdeal.nD Cert.SortedNmsIdeal.τ).loc Cert.SortedNmsIdeal.main_arg0)
          ∧ r.2.mem ((c.tc : Thread Cert.SortedNmsIdeal.nD Cert.SortedNmsIdeal.τ).loc Cert.SortedNmsIdeal.main_arg1) = m' ((c.tc : Thread Cert.SortedNmsIdeal.nD Cert.SortedNmsIdeal.τ).loc Cert.SortedNmsIdeal.main_arg1)
          ∧ r.2.mem ((c.tc : Thread Cert.SortedNmsIdeal.nD Cert.SortedNmsIdeal.τ).loc Cert.SortedNmsIdeal.main_arg2) = m' ((c.tc : Thread Cert.SortedNmsIdeal.nD Cert.SortedNmsIdeal.τ).loc Cert.SortedNmsIdeal.main_arg2))

def Claim : Prop :=
  ∃ (hMaskGather : Cert.MaskGather.Facts) (hMaskGatherIdeal : Cert.MaskGatherIdeal.Facts) (hMaskRowsIdeal : Cert.MaskRowsIdeal.Facts) (hNmsSort : Cert.NmsSort.Facts) (hNmsSortIdeal : Cert.NmsSortIdeal.Facts) (hSortedNmsIdeal : Cert.SortedNmsIdeal.Facts) (hPre_in_range : Cert.Pre_in_range.Facts),
    quiescent_MaskGather (hMaskGather := hMaskGather) (hPre_in_range := hPre_in_range)
    ∧ quiescent_MaskGatherIdeal (hMaskGatherIdeal := hMaskGatherIdeal) (hPre_in_range := hPre_in_range)
    ∧ quiescent_MaskRowsIdeal (hMaskRowsIdeal := hMaskRowsIdeal)
    ∧ quiescent_MaskRowsIdeal_pre_in_range (hMaskRowsIdeal := hMaskRowsIdeal) (hPre_in_range := hPre_in_range)
    ∧ quiescent_NmsSort (hNmsSort := hNmsSort)
    ∧ quiescent_NmsSortIdeal (hNmsSortIdeal := hNmsSortIdeal)
    ∧ quiescent_SortedNmsIdeal (hSortedNmsIdeal := hSortedNmsIdeal)
    ∧ preserves_MaskGather_MaskGatherIdeal
    ∧ algebraic_MaskGatherIdeal_MaskRowsIdeal (hMaskGatherIdeal := hMaskGatherIdeal) (hMaskRowsIdeal := hMaskRowsIdeal) (hPre_in_range := hPre_in_range)
    ∧ preserves_NmsSort_NmsSortIdeal
    ∧ algebraic_NmsSortIdeal_SortedNmsIdeal (hNmsSortIdeal := hNmsSortIdeal) (hSortedNmsIdeal := hSortedNmsIdeal)
-- ==== Pre_in_range.lean ====
abbrev S512 : Shape := ⟨1, ![512]⟩
abbrev S512x512x512 : Shape := ⟨3, ![512, 512, 512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : IVec S512 32) (main_arg1 : IVec S512 32) (main_arg2 : FVec F S512x512x512 .f32) : IVec S_ 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 512#32
  let main_v2 : IVec S512 32 := broadcastInDim S512 ![] bcast_S_S512 main_c_0
  let main_v3 : IVec S512 1 := cmpi .slt main_arg0 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  main_v5
-- ==== MaskGather.lean ====
abbrev S512 : Shape := ⟨1, ![512]⟩
abbrev S512x512x512 : Shape := ⟨3, ![512, 512, 512]⟩
abbrev S1x512x512 : Shape := ⟨3, ![1, 512, 512]⟩
abbrev S1 : Shape := ⟨1, ![1]⟩
abbrev S8x512x512 : Shape := ⟨3, ![8, 512, 512]⟩
abbrev S512x512 : Shape := ⟨2, ![512, 512]⟩

abbrev nBuf : Space → Nat
  | .hbm => 2
  | .vmem => 18
  | .smem => 2
  | _ => 0

abbrev bufTy : (tb : Table) → Fin (tcTables nBuf tb) → BufTy
  | .hbm, ⟨0, _⟩ => ⟨S512x512x512, .f32⟩
  | .hbm, ⟨1, _⟩ => ⟨S512x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S8x512x512, .f32⟩
  | .local _ .vmem, ⟨17, _⟩ => ⟨S8x512x512, .f32⟩
  | .local _ .smem, ⟨0, _⟩ => ⟨S512, .i32⟩
  | .local _ .smem, ⟨1, _⟩ => ⟨S512, .i32⟩
  | _, _ => ⟨S512x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg2 : Ref sig .tc := ⟨.hbm, 0, rfl⟩
abbrev main_v0 : Ref sig .tc := ⟨.hbm, 1, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c8_i32 : BitVec 32 := 8#32
  let v0 : BitVec 32 := Scalar.muli arg0 c8_i32
  let v1 : BitVec 32 := Scalar.addi v0 c0_i32
  let v2 : Index := Scalar.indexCast v1
  ![v2.toNat]
def cc0_transform_0 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c0_i32 : BitVec 32 := 0#32
  let v1 : BitVec 32 := Scalar.addi v0 c0_i32
  let v2 : Index := Scalar.indexCast v1
  let v3 : BitVec 32 := pf.at 0 (Rect.unit (s := S512) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_1 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.addi v0 c1_i32
  let v2 : Index := Scalar.indexCast v1
  let v3 : BitVec 32 := pf.at 0 (Rect.unit (s := S512) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_2 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c2_i32 : BitVec 32 := 2#32
  let v1 : BitVec 32 := Scalar.addi v0 c2_i32
  let v2 : Index := Scalar.indexCast v1
  let v3 : BitVec 32 := pf.at 0 (Rect.unit (s := S512) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c3_i32 : BitVec 32 := 3#32
  let v1 : BitVec 32 := Scalar.addi v0 c3_i32
  let v2 : Index := Scalar.indexCast v1
  let v3 : BitVec 32 := pf.at 0 (Rect.unit (s := S512) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c4_i32 : BitVec 32 := 4#32
  let v1 : BitVec 32 := Scalar.addi v0 c4_i32
  let v2 : Index := Scalar.indexCast v1
  let v3 : BitVec 32 := pf.at 0 (Rect.unit (s := S512) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c5_i32 : BitVec 32 := 5#32
  let v1 : BitVec 32 := Scalar.addi v0 c5_i32
  let v2 : Index := Scalar.indexCast v1
  let v3 : BitVec 32 := pf.at 0 (Rect.unit (s := S512) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c6_i32 : BitVec 32 := 6#32
  let v1 : BitVec 32 := Scalar.addi v0 c6_i32
  let v2 : Index := Scalar.indexCast v1
  let v3 : BitVec 32 := pf.at 0 (Rect.unit (s := S512) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off1_inb : ∀ i : grid0.Coords, ∀ (r : Fin 8), ∀ a, (k0_off1 i (BitVec.ofNat 32 r.val)) a + S1.size a ≤ S512.size a) (numel1_S1 : S1.numel = 1) (pf : pre0.Contents (Elt F)) (i : grid0.Coords) : Fin 3 → Nat :=
  let arg0 : BitVec 32 := BitVec.ofNat 32 (i 0).val
  let c8_i32 : BitVec 32 := 8#32
  let v0 : BitVec 32 := Scalar.muli arg0 c8_i32
  let c7_i32 : BitVec 32 := 7#32
  let v1 : BitVec 32 := Scalar.addi v0 c7_i32
  let v2 : Index := Scalar.indexCast v1
  let v3 : BitVec 32 := pf.at 0 (Rect.unit (s := S512) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MaskRowsIdeal.lean ====
abbrev S512 : Shape := ⟨1, ![512]⟩
abbrev S512x512x512 : Shape := ⟨3, ![512, 512, 512]⟩
abbrev S_ : Shape := ⟨0, ![]⟩
abbrev S512x1 : Shape := ⟨2, ![512, 1]⟩
abbrev S512x1x1 : Shape := ⟨3, ![512, 1, 1]⟩

abbrev nBuf : Space → Nat
  | .hbm => 16
  | .vmem => 0
  | .smem => 0
  | _ => 0

abbrev bufTy : (tb : Table) → Fin (tcTables nBuf tb) → BufTy
  | .hbm, ⟨0, _⟩ => ⟨S512, .i32⟩
  | .hbm, ⟨1, _⟩ => ⟨S512, .i32⟩
  | .hbm, ⟨2, _⟩ => ⟨S512x512x512, .f32⟩
  | .hbm, ⟨3, _⟩ => ⟨S_, .i32⟩
  | .hbm, ⟨4, _⟩ => ⟨S512, .i32⟩
  | .hbm, ⟨5, _⟩ => ⟨S512, .i1⟩
  | .hbm, ⟨6, _⟩ => ⟨S_, .i32⟩
  | .hbm, ⟨7, _⟩ => ⟨S512, .i32⟩
  | .hbm, ⟨8, _⟩ => ⟨S512, .i32⟩
  | .hbm, ⟨9, _⟩ => ⟨S512, .i32⟩
  | .hbm, ⟨10, _⟩ => ⟨S512x1, .i32⟩
  | .hbm, ⟨11, _⟩ => ⟨S512x512x512, .f32⟩
  | .hbm, ⟨12, _⟩ => ⟨S512x1x1, .i32⟩
  | .hbm, ⟨13, _⟩ => ⟨S512x1x1, .f32⟩
  | .hbm, ⟨14, _⟩ => ⟨S512x512x512, .f32⟩
  | .hbm, ⟨15, _⟩ => ⟨S512x512x512, .f32⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== NmsSort.lean ====
abbrev S512x4 : Shape := ⟨2, ![512, 4]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1x512 : Shape := ⟨3, ![1, 1, 512]⟩
abbrev S1 : Shape := ⟨1, ![1]⟩
abbrev S1x1x1 : Shape := ⟨3, ![1, 1, 1]⟩
abbrev S1x8 : Shape := ⟨2, ![1, 8]⟩
abbrev S8x512 : Shape := ⟨2, ![8, 512]⟩
abbrev S8x8 : Shape := ⟨2, ![8, 8]⟩
abbrev S8 : Shape := ⟨1, ![8]⟩
abbrev S8x1 : Shape := ⟨2, ![8, 1]⟩
abbrev S1x1x8 : Shape := ⟨3, ![1, 1, 8]⟩
abbrev S1x1 : Shape := ⟨2, ![1, 1]⟩
abbrev S1x504 : Shape := ⟨2, ![1, 504]⟩
abbrev S_ : Shape := ⟨0, ![]⟩

abbrev nBuf : Space → Nat
  | .hbm => 17
  | .vmem => 13
  | .smem => 0
  | _ => 0

abbrev bufTy : (tb : Table) → Fin (tcTables nBuf tb) → BufTy
  | .hbm, ⟨0, _⟩ => ⟨S512x4, .f32⟩
  | .hbm, ⟨1, _⟩ => ⟨S512, .f32⟩
  | .hbm, ⟨2, _⟩ => ⟨S512, .i32⟩
  | .hbm, ⟨3, _⟩ => ⟨S512x1, .f32⟩
  | .hbm, ⟨4, _⟩ => ⟨S1x512, .f32⟩
  | .hbm, ⟨5, _⟩ => ⟨S1x512, .i32⟩
  | .hbm, ⟨6, _⟩ => ⟨S512x4, .f32⟩
  | .hbm, ⟨7, _⟩ => ⟨S512x1, .i32⟩
  | .hbm, ⟨8, _⟩ => ⟨S512x1, .f32⟩
  | .hbm, ⟨9, _⟩ => ⟨S512x1, .i32⟩
  | .hbm, ⟨10, _⟩ => ⟨S512x1, .i32⟩
  | .hbm, ⟨11, _⟩ => ⟨S512x1, .i32⟩
  | .hbm, ⟨12, _⟩ => ⟨S512x1, .i32⟩
  | .hbm, ⟨13, _⟩ => ⟨S_, .i32⟩
  | .hbm, ⟨14, _⟩ => ⟨S512x1, .i32⟩
  | .hbm, ⟨15, _⟩ => ⟨S512x1, .i1⟩
  | .hbm, ⟨16, _⟩ => ⟨S512x1, .i1⟩
  | .local _ .vmem, ⟨0, _⟩ => ⟨S512x4, .f32⟩
  | .local _ .vmem, ⟨1, _⟩ => ⟨S512x1, .f32⟩
  | .local _ .vmem, ⟨2, _⟩ => ⟨S1x512, .f32⟩
  | .local _ .vmem, ⟨3, _⟩ => ⟨S1x512, .i32⟩
  | .local _ .vmem, ⟨4, _⟩ => ⟨S512x4, .f32⟩
  | .local _ .vmem, ⟨5, _⟩ => ⟨S512x1, .i32⟩
  | .local _ .vmem, ⟨6, _⟩ => ⟨S512x1, .f32⟩
  | .local _ .vmem, ⟨7, _⟩ => ⟨S512x1, .i32⟩
  | .local _ .vmem, ⟨8, _⟩ => ⟨S512x1, .i32⟩
  | .local _ .vmem, ⟨9, _⟩ => ⟨S512x1, .i32⟩
  | .local _ .vmem, ⟨10, _⟩ => ⟨S512x1, .i32⟩
  | .local _ .vmem, ⟨11, _⟩ => ⟨S512x512, .f32⟩
  | .local _ .vmem, ⟨12, _⟩ => ⟨S1x512, .i32⟩
  | _, _ => ⟨S512x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop (v145 : BitVec 32) : Scf.Loop 32 :=
  let c0_i32_43 : BitVec 32 := 0#32
  let c7_i32 : BitVec 32 := 7#32
  let v146 : BitVec 32 := Scalar.addi v145 c7_i32
  let c0_i32 : BitVec 32 := 0#32
  let v148 : BitVec 1 := Scalar.cmpi .sgt v146 c0_i32
  let v149 : BitVec 32 := Scalar.extui v148
  let c0_i32_35 : BitVec 32 := 0#32
  let v150 : BitVec 1 := Scalar.cmpi .slt v146 c0_i32_35
  let v151 : BitVec 32 := Scalar.extui v150
  let v152 : BitVec 32 := Scalar.subi v149 v151
  let c8_i32 : BitVec 32 := 8#32
  let c0_i32_36 : BitVec 32 := 0#32
  let v153 : BitVec 1 := Scalar.cmpi .sgt c8_i32 c0_i32_36
  let v154 : BitVec 32 := Scalar.extui v153
  let c0_i32_37 : BitVec 32 := 0#32
  let v155 : BitVec 1 := Scalar.cmpi .slt c8_i32 c0_i32_37
  let v156 : BitVec 32 := Scalar.extui v155
  let v157 : BitVec 32 := Scalar.subi v154 v156
  let v158 : BitVec 1 := Scalar.cmpi .ne v152 v157
  let v159 : BitVec 32 := Scalar.remsi v146 c8_i32
  let c0_i32_38 : BitVec 32 := 0#32
  let v160 : BitVec 1 := Scalar.cmpi .ne v159 c0_i32_38
  let v161 : BitVec 1 := Scalar.andi v158 v160
  let v147 : BitVec 32 := Scalar.divsi v146 c8_i32
  let c1_i32 : BitVec 32 := 1#32
  let v162 : BitVec 32 := Scalar.subi v147 c1_i32
  let v163 : BitVec 32 := Scalar.select v161 v162 v147
  let v173 : BitVec 32 := Scalar.subi v163 c0_i32_43
  let c1_i32_44 : BitVec 32 := 1#32
  let v175 : BitVec 32 := Scalar.divsi v173 c1_i32_44
  let v176 : BitVec 32 := Scalar.muli v175 c1_i32_44
  let v177 : BitVec 32 := Scalar.addi c0_i32_43 v176
  let c1_i32_45 : BitVec 32 := 1#32
  ⟨c0_i32_43, v177, c1_i32_45⟩

def k0_mult1 (v145 : BitVec 32) (k0_t1 : Fin (k0_t1_loop v145).trips) : BitVec 32 :=
  let c0_i32_43 : BitVec 32 := 0#32
  let c1_i32_45 : BitVec 32 := 1#32
  let arg13 : BitVec 32 := Scf.iv c0_i32_43 c1_i32_45 k0_t1
  let c8_i32_81 : BitVec 32 := 8#32
  let v246 : BitVec 32 := Scalar.muli arg13 c8_i32_81
  v246
def k0_off1 (v145 : BitVec 32) (k0_t1 : Fin (k0_t1_loop v145).trips) : Fin 2 → Nat :=
  let c0_i32_43 : BitVec 32 := 0#32
  let c1_i32_45 : BitVec 32 := 1#32
  let arg13 : BitVec 32 := Scf.iv c0_i32_43 c1_i32_45 k0_t1
  let c8_i32_81 : BitVec 32 := 8#32
  let v246 : BitVec 32 := Scalar.muli arg13 c8_i32_81
  let v247 : BitVec 32 := v246
  let v248 : Index := Scalar.indexCast v247
  let c0_82 : Index := 0#32
  ![v248.toNat, 0]
@[reducible] def k0_t2_loop (v145 : BitVec 32) : Scf.Loop 32 :=
  let c0_i32_43 : BitVec 32 := 0#32
  let c7_i32 : BitVec 32 := 7#32
  let v146 : BitVec 32 := Scalar.addi v145 c7_i32
  let c0_i32 : BitVec 32 := 0#32
  let v148 : BitVec 1 := Scalar.cmpi .sgt v146 c0_i32
  let v149 : BitVec 32 := Scalar.extui v148
  let c0_i32_35 : BitVec 32 := 0#32
  let v150 : BitVec 1 := Scalar.cmpi .slt v146 c0_i32_35
  let v151 : BitVec 32 := Scalar.extui v150
  let v152 : BitVec 32 := Scalar.subi v149 v151
  let c8_i32 : BitVec 32 := 8#32
  let c0_i32_36 : BitVec 32 := 0#32
  let v153 : BitVec 1 := Scalar.cmpi .sgt c8_i32 c0_i32_36
  let v154 : BitVec 32 := Scalar.extui v153
  let c0_i32_37 : BitVec 32 := 0#32
  let v155 : BitVec 1 := Scalar.cmpi .slt c8_i32 c0_i32_37
  let v156 : BitVec 32 := Scalar.extui v155
  let v157 : BitVec 32 := Scalar.subi v154 v156
  let v158 : BitVec 1 := Scalar.cmpi .ne v152 v157
  let v159 : BitVec 32 := Scalar.remsi v146 c8_i32
  let c0_i32_38 : BitVec 32 := 0#32
  let v160 : BitVec 1 := Scalar.cmpi .ne v159 c0_i32_38
  let v161 : BitVec 1 := Scalar.andi v158 v160
  let v147 : BitVec 32 := Scalar.divsi v146 c8_i32
  let c1_i32 : BitVec 32 := 1#32
  let v162 : BitVec 32 := Scalar.subi v147 c1_i32
  let v163 : BitVec 32 := Scalar.select v161 v162 v147
  let v173 : BitVec 32 := Scalar.subi v163 c0_i32_43
  let c1_i32_44 : BitVec 32 := 1#32
  let v175 : BitVec 32 := Scalar.divsi v173 c1_i32_44
  let v176 : BitVec 32 := Scalar.muli v175 c1_i32_44
  let v177 : BitVec 32 := Scalar.addi c0_i32_43 v176
  let v174 : BitVec 32 := Scalar.addi c0_i32_43 v173
  let c1_i32_46 : BitVec 32 := 1#32
  ⟨v177, v174, c1_i32_46⟩
def k0_mult2 (v145 : BitVec 32) (k0_t2 : Fin (k0_t2_loop v145).trips) : BitVec 32 :=
  let c0_i32_43 : BitVec 32 := 0#32
  let c7_i32 : BitVec 32 := 7#32
  let v146 : BitVec 32 := Scalar.addi v145 c7_i32
  let c0_i32 : BitVec 32 := 0#32
  let v148 : BitVec 1 := Scalar.cmpi .sgt v146 c0_i32
  let v149 : BitVec 32 := Scalar.extui v148
  let c0_i32_35 : BitVec 32 := 0#32
  let v150 : BitVec 1 := Scalar.cmpi .slt v146 c0_i32_35
  let v151 : BitVec 32 := Scalar.extui v150
  let v152 : BitVec 32 := Scalar.subi v149 v151
  let c8_i32 : BitVec 32 := 8#32
  let c0_i32_36 : BitVec 32 := 0#32
  let v153 : BitVec 1 := Scalar.cmpi .sgt c8_i32 c0_i32_36
  let v154 : BitVec 32 := Scalar.extui v153
  let c0_i32_37 : BitVec 32 := 0#32
  let v155 : BitVec 1 := Scalar.cmpi .slt c8_i32 c0_i32_37
  let v156 : BitVec 32 := Scalar.extui v155
  let v157 : BitVec 32 := Scalar.subi v154 v156
  let v158 : BitVec 1 := Scalar.cmpi .ne v152 v157
  let v159 : BitVec 32 := Scalar.remsi v146 c8_i32
  let c0_i32_38 : BitVec 32 := 0#32
  let v160 : BitVec 1 := Scalar.cmpi .ne v159 c0_i32_38
  let v161 : BitVec 1 := Scalar.andi v158 v160
  let v147 : BitVec 32 := Scalar.divsi v146 c8_i32
  let c1_i32 : BitVec 32 := 1#32
  let v162 : BitVec 32 := Scalar.subi v147 c1_i32
  let v163 : BitVec 32 := Scalar.select v161 v162 v147
  let v173 : BitVec 32 := Scalar.subi v163 c0_i32_43
  let c1_i32_44 : BitVec 32 := 1#32
  let v175 : BitVec 32 := Scalar.divsi v173 c1_i32_44
  let v176 : BitVec 32 := Scalar.muli v175 c1_i32_44
  let v177 : BitVec 32 := Scalar.addi c0_i32_43 v176
  let c1_i32_46 : BitVec 32 := 1#32
  let arg13 : BitVec 32 := Scf.iv v177 c1_i32_46 k0_t2
  let c8_i32_81 : BitVec 32 := 8#32
  let v246 : BitVec 32 := Scalar.muli arg13 c8_i32_81
  v246
def k0_off2 (v145 : BitVec 32) (k0_t2 : Fin (k0_t2_loop v145).trips) : Fin 2 → Nat :=
  let c0_i32_43 : BitVec 32 := 0#32
  let c7_i32 : BitVec 32 := 7#32
  let v146 : BitVec 32 := Scalar.addi v145 c7_i32
  let c0_i32 : BitVec 32 := 0#32
  let v148 : BitVec 1 := Scalar.cmpi .sgt v146 c0_i32
  let v149 : BitVec 32 := Scalar.extui v148
  let c0_i32_35 : BitVec 32 := 0#32
  let v150 : BitVec 1 := Scalar.cmpi .slt v146 c0_i32_35
  let v151 : BitVec 32 := Scalar.extui v150
  let v152 : BitVec 32 := Scalar.subi v149 v151
  let c8_i32 : BitVec 32 := 8#32
  let c0_i32_36 : BitVec 32 := 0#32
  let v153 : BitVec 1 := Scalar.cmpi .sgt c8_i32 c0_i32_36
  let v154 : BitVec 32 := Scalar.extui v153
  let c0_i32_37 : BitVec 32 := 0#32
  let v155 : BitVec 1 := Scalar.cmpi .slt c8_i32 c0_i32_37
  let v156 : BitVec 32 := Scalar.extui v155
  let v157 : BitVec 32 := Scalar.subi v154 v156
  let v158 : BitVec 1 := Scalar.cmpi .ne v152 v157
  let v159 : BitVec 32 := Scalar.remsi v146 c8_i32
  let c0_i32_38 : BitVec 32 := 0#32
  let v160 : BitVec 1 := Scalar.cmpi .ne v159 c0_i32_38
  let v161 : BitVec 1 := Scalar.andi v158 v160
  let v147 : BitVec 32 := Scalar.divsi v146 c8_i32
  let c1_i32 : BitVec 32 := 1#32
  let v162 : BitVec 32 := Scalar.subi v147 c1_i32
  let v163 : BitVec 32 := Scalar.select v161 v162 v147
  let v173 : BitVec 32 := Scalar.subi v163 c0_i32_43
  let c1_i32_44 : BitVec 32 := 1#32
  let v175 : BitVec 32 := Scalar.divsi v173 c1_i32_44
  let v176 : BitVec 32 := Scalar.muli v175 c1_i32_44
  let v177 : BitVec 32 := Scalar.addi c0_i32_43 v176
  let c1_i32_46 : BitVec 32 := 1#32
  let arg13 : BitVec 32 := Scf.iv v177 c1_i32_46 k0_t2
  let c8_i32_81 : BitVec 32 := 8#32
  let v246 : BitVec 32 := Scalar.muli arg13 c8_i32_81
  let v247 : BitVec 32 := v246
  let v248 : Index := Scalar.indexCast v247
  let c0_82 : Index := 0#32
  ![v248.toNat, 0]

def k0_chk1 (v145 : BitVec 32) : Prop :=
  ((k0_t1_loop v145).OK) ∧
  (∀ k0_t1 : Fin (k0_t1_loop v145).trips, 8 ∣ (k0_mult1 v145 k0_t1).toNat) ∧
  (∀ k0_t1 : Fin (k0_t1_loop v145).trips, ∀ a, (k0_off1 v145 k0_t1) a + S8x512.size a ≤ S512x512.size a) ∧
  ((k0_t2_loop v145).OK) ∧
  (∀ k0_t2 : Fin (k0_t2_loop v145).trips, 8 ∣ (k0_mult2 v145 k0_t2).toNat) ∧
  (∀ k0_t2 : Fin (k0_t2_loop v145).trips, ∀ a, (k0_off2 v145 k0_t2) a + S8x512.size a ≤ S512x512.size a)
theorem k0_t1_ok : ∀ (v145 : BitVec 32) (k0_hw1 : k0_chk1 v145), (k0_t1_loop v145).OK := fun v145 k0_hw1 => k0_hw1.1
theorem k0_mult1_dvd : ∀ (v145 : BitVec 32) (k0_hw1 : k0_chk1 v145) (k0_t1 : Fin (k0_t1_loop v145).trips), 8 ∣ (k0_mult1 v145 k0_t1).toNat := fun v145 k0_hw1 k0_t1 => k0_hw1.2.1 k0_t1
theorem k0_off1_inb : ∀ (v145 : BitVec 32) (k0_hw1 : k0_chk1 v145) (k0_t1 : Fin (k0_t1_loop v145).trips), ∀ a, (k0_off1 v145 k0_t1) a + S8x512.size a ≤ S512x512.size a := fun v145 k0_hw1 k0_t1 => k0_hw1.2.2.1 k0_t1
theorem k0_t2_ok : ∀ (v145 : BitVec 32) (k0_hw1 : k0_chk1 v145), (k0_t2_loop v145).OK := fun v145 k0_hw1 => k0_hw1.2.2.2.1
theorem k0_mult2_dvd : ∀ (v145 : BitVec 32) (k0_hw1 : k0_chk1 v145) (k0_t2 : Fin (k0_t2_loop v145).trips), 8 ∣ (k0_mult2 v145 k0_t2).toNat := fun v145 k0_hw1 k0_t2 => k0_hw1.2.2.2.2.1 k0_t2
theorem k0_off2_inb : ∀ (v145 : BitVec 32) (k0_hw1 : k0_chk1 v145) (k0_t2 : Fin (k0_t2_loop v145).trips), ∀ a, (k0_off2 v145 k0_t2) a + S8x512.size a ≤ S512x512.size a := fun v145 k0_hw1 k0_t2 => k0_hw1.2.2.2.2.2 k0_t2

abbrev stage0_0 : Fin 1 → Memref sig .tc .vmem S512x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x1 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== SortedNmsIdeal.lean ====
abbrev S512x4 : Shape := ⟨2, ![512, 4]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1 : Shape := ⟨1, ![1]⟩

abbrev nBuf : Space → Nat
  | .hbm => 155
  | .vmem => 0
  | .smem => 0
  | _ => 0

abbrev hbmTy0_0 (i : Nat) : BufTy := match i % 128 with
  | 0 => ⟨S512x4, .f32⟩
  | 1 => ⟨S512, .f32⟩
  | 2 => ⟨S512, .i32⟩
  | 3 => ⟨S512, .f32⟩
  | 4 => ⟨S512, .i32⟩
  | 5 => ⟨S512, .f32⟩
  | 6 => ⟨S512, .i32⟩
  | 7 => ⟨S_, .i32⟩
  | 8 => ⟨S512, .i32⟩
  | 9 => ⟨S512, .i1⟩
  | 10 => ⟨S_, .i32⟩
  | 11 => ⟨S512, .i32⟩
  | 12 => ⟨S512, .i32⟩
  | 13 => ⟨S512, .i32⟩
  | 14 => ⟨S512x1, .i32⟩
  | 15 => ⟨S512x4, .f32⟩
  | 16 => ⟨S_, .i32⟩
  | 17 => ⟨S512, .i32⟩
  | 18 => ⟨S512, .i1⟩
  | 19 => ⟨S_, .i32⟩
  | 20 => ⟨S512, .i32⟩
  | 21 => ⟨S512, .i32⟩
  | 22 => ⟨S512, .i32⟩
  | 23 => ⟨S512x1, .i32⟩
  | 24 => ⟨S512, .f32⟩
  | 25 => ⟨S_, .i32⟩
  | 26 => ⟨S512, .i32⟩
  | 27 => ⟨S512, .i1⟩
  | 28 => ⟨S_, .i32⟩
  | 29 => ⟨S512, .i32⟩
  | 30 => ⟨S512, .i32⟩
  | 31 => ⟨S512, .i32⟩
  | 32 => ⟨S512x1, .i32⟩
  | 33 => ⟨S512, .i32⟩
  | 34 => ⟨S_, .f32⟩
  | 35 => ⟨S512, .f32⟩
  | 36 => ⟨S512, .i1⟩
  | 37 => ⟨S512x1, .f32⟩
  | 38 => ⟨S512, .f32⟩
  | 39 => ⟨S512x1, .f32⟩
  | 40 => ⟨S512, .f32⟩
  | 41 => ⟨S512x1, .f32⟩
  | 42 => ⟨S512, .f32⟩
  | 43 => ⟨S512x1, .f32⟩
  | 44 => ⟨S512, .f32⟩
  | 45 => ⟨S512, .f32⟩
  | 46 => ⟨S512, .f32⟩
  | 47 => ⟨S512, .f32⟩
  | 48 => ⟨S512x1, .f32⟩
  | 49 => ⟨S1x512, .f32⟩
  | 50 => ⟨S512x512, .f32⟩
  | 51 => ⟨S512x512, .f32⟩
  | 52 => ⟨S512x512, .f32⟩
  | 53 => ⟨S512x1, .f32⟩
  | 54 => ⟨S1x512, .f32⟩
  | 55 => ⟨S512x512, .f32⟩
  | 56 => ⟨S512x512, .f32⟩
  | 57 => ⟨S512x512, .f32⟩
  | 58 => ⟨S512x1, .f32⟩
  | 59 => ⟨S1x512, .f32⟩
  | 60 => ⟨S512x512, .f32⟩
  | 61 => ⟨S512x512, .f32⟩
  | 62 => ⟨S512x512, .f32⟩
  | 63 => ⟨S512x1, .f32⟩
  | 64 => ⟨S1x512, .f32⟩
  | 65 => ⟨S512x512, .f32⟩
  | 66 => ⟨S512x512, .f32⟩
  | 67 => ⟨S512x512, .f32⟩
  | 68 => ⟨S512x512, .f32⟩
  | 69 => ⟨S_, .i32⟩
  | 70 => ⟨S_, .f32⟩
  | 71 => ⟨S512x512, .f32⟩
  | 72 => ⟨S512x512, .f32⟩
  | 73 => ⟨S512x512, .f32⟩
  | 74 => ⟨S_, .i32⟩
  | 75 => ⟨S_, .f32⟩
  | 76 => ⟨S512x512, .f32⟩
  | 77 => ⟨S512x512, .f32⟩
  | 78 => ⟨S512x512, .f32⟩
  | 79 => ⟨S512x1, .f32⟩
  | 80 => ⟨S1x512, .f32⟩
  | 81 => ⟨S512x512, .f32⟩
  | 82 => ⟨S512x512, .f32⟩
  | 83 => ⟨S512x512, .f32⟩
  | 84 => ⟨S512x512, .f32⟩
  | 85 => ⟨S512x512, .f32⟩
  | 86 => ⟨S512, .i32⟩
  | 87 => ⟨S_, .i32⟩
  | 88 => ⟨S_, .i32⟩
  | 89 => ⟨S512, .i32⟩
  | 90 => ⟨S512x512, .f32⟩
  | 91 => ⟨S_, .i32⟩
  | 92 => ⟨S_, .i32⟩
  | 93 => ⟨S512, .i1⟩
  | 94 => ⟨S_, .i32⟩
  | 95 => ⟨S_, .i1⟩
  | 96 => ⟨S_, .i32⟩
  | 97 => ⟨S_, .i32⟩
  | 98 => ⟨S_, .i32⟩
  | 99 => ⟨S512, .i32⟩
  | 100 => ⟨S512, .i1⟩
  | 101 => ⟨S512, .i1⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S_, .i32⟩
  | 116 => ⟨S512x1, .f32⟩
  | 117 => ⟨S512, .f32⟩
  | 118 => ⟨S_, .f32⟩
  | 119 => ⟨S512, .f32⟩
  | 120 => ⟨S512, .i1⟩
  | 121 => ⟨S512, .i1⟩
  | 122 => ⟨S_, .i1⟩
  | 123 => ⟨S_, .i1⟩
  | 124 => ⟨S_, .i32⟩
  | 125 => ⟨S_, .i1⟩
  | 126 => ⟨S_, .i32⟩
  | 127 => ⟨S_, .i32⟩
  | _ => ⟨S512x4, .f32⟩

abbrev hbmTy0_1 (i : Nat) : BufTy := match i % 128 with
  | 0 => ⟨S_, .i32⟩
  | 1 => ⟨S_, .i32⟩
  | 2 => ⟨S1, .i1⟩
  | 3 => ⟨S_, .i1⟩
  | 4 => ⟨S_, .i1⟩
  | 5 => ⟨S_, .i1⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S1, .i32⟩
  | 13 => ⟨S512, .i1⟩
  | 14 => ⟨S_, .i32⟩
  | 15 => ⟨S_, .i32⟩
  | 16 => ⟨S512x1, .i1⟩
  | 17 => ⟨S512x1, .f32⟩
  | 18 => ⟨S512x4, .f32⟩
  | 19 => ⟨S512x4, .f32⟩
  | 20 => ⟨S512, .i32⟩
  | 21 => ⟨S512, .i32⟩
  | 22 => ⟨S512, .f32⟩
  | 23 => ⟨S512, .f32⟩
  | 24 => ⟨S512x1, .i32⟩
  | 25 => ⟨S512x1, .f32⟩
  | 26 => ⟨S512x1, .i1⟩
  | _ => ⟨S512x4, .f32⟩

abbrev hbmTy (i : Nat) : BufTy := match i / 128 with
  | 0 => hbmTy0_0 i
  | 1 => hbmTy0_1 i
  | _ => ⟨S512x4, .f32⟩

abbrev bufTy : (tb : Table) → Fin (tcTables nBuf tb) → BufTy
  | .hbm, ⟨i, _⟩ => hbmTy i
  | _, _ => ⟨S512x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_c_5 : Ref sig .tc := ⟨.hbm, 69, rfl⟩
abbrev main_call1_v0 : Ref sig .tc := ⟨.hbm, 70, rfl⟩
abbrev main_call1_v1 : Ref sig .tc := ⟨.hbm, 71, rfl⟩
abbrev main_v57 : Ref sig .tc := ⟨.hbm, 72, rfl⟩
abbrev main_v58 : Ref sig .tc := ⟨.hbm, 73, rfl⟩
abbrev main_c_6 : Ref sig .tc := ⟨.hbm, 74, rfl⟩
abbrev main_call2_v0 : Ref sig .tc := ⟨.hbm, 75, rfl⟩
abbrev main_call2_v1 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_c_7 : Ref sig .tc := ⟨.hbm, 87, rfl⟩
abbrev main_c_8 : Ref sig .tc := ⟨.hbm, 88, rfl⟩
abbrev main_v69_0 : Ref sig .tc := ⟨.hbm, 89, rfl⟩
abbrev main_v69_1 : Ref sig .tc := ⟨.hbm, 90, rfl⟩
abbrev main_v69_2 : Ref sig .tc := ⟨.hbm, 91, rfl⟩
abbrev main_v69_3 : Ref sig .tc := ⟨.hbm, 92, rfl⟩
abbrev main_v69_4 : Ref sig .tc := ⟨.hbm, 93, rfl⟩
abbrev main_while0c_c_13 : Ref sig .tc := ⟨.hbm, 94, rfl⟩
abbrev main_while0c_v81 : Ref sig .tc := ⟨.hbm, 95, rfl⟩
abbrev main_while0b_c_13 : Ref sig .tc := ⟨.hbm, 96, rfl⟩
abbrev main_while0b_v81 : Ref sig .tc := ⟨.hbm, 97, rfl⟩
abbrev main_while0b_v82 : Ref sig .tc := ⟨.hbm, 98, rfl⟩
abbrev main_while0b_v83 : Ref sig .tc := ⟨.hbm, 99, rfl⟩
abbrev main_while0b_v84 : Ref sig .tc := ⟨.hbm, 100, rfl⟩
abbrev main_while0b_v85 : Ref sig .tc := ⟨.hbm, 101, rfl⟩
abbrev main_while0b_v86 : Ref sig .tc := ⟨.hbm, 102, rfl⟩
abbrev main_while0b_c_14 : Ref sig .tc := ⟨.hbm, 103, rfl⟩
abbrev main_while0b_c_15 : Ref sig .tc := ⟨.hbm, 104, rfl⟩
abbrev main_while0b_v87 : Ref sig .tc := ⟨.hbm, 105, rfl⟩
abbrev main_while0b_c_16 : Ref sig .tc := ⟨.hbm, 106, rfl⟩
abbrev main_while0b_c_17 : Ref sig .tc := ⟨.hbm, 107, rfl⟩
abbrev main_while0b_v88 : Ref sig .tc := ⟨.hbm, 108, rfl⟩
abbrev main_while0b_c_18 : Ref sig .tc := ⟨.hbm, 109, rfl⟩
abbrev main_while0b_v89 : Ref sig .tc := ⟨.hbm, 110, rfl⟩
abbrev main_while0b_c_19 : Ref sig .tc := ⟨.hbm, 111, rfl⟩
abbrev main_while0b_v90 : Ref sig .tc := ⟨.hbm, 112, rfl⟩
abbrev main_while0b_c_20 : Ref sig .tc := ⟨.hbm, 113, rfl⟩
abbrev main_while0b_v91 : Ref sig .tc := ⟨.hbm, 114, rfl⟩
abbrev main_while0b_v92 : Ref sig .tc := ⟨.hbm, 115, rfl⟩
abbrev main_while0b_v93 : Ref sig .tc := ⟨.hbm, 116, rfl⟩
abbrev main_while0b_v94 : Ref sig .tc := ⟨.hbm, 117, rfl⟩
abbrev main_while0b_cst_21 : Ref sig .tc := ⟨.hbm, 118, rfl⟩
abbrev main_while0b_v95 : Ref sig .tc := ⟨.hbm, 119, rfl⟩
abbrev main_while0b_v96 : Ref sig .tc := ⟨.hbm, 120, rfl⟩
abbrev main_while0b_v97 : Ref sig .tc := ⟨.hbm, 121, rfl⟩
abbrev main_while0b_c_22 : Ref sig .tc := ⟨.hbm, 122, rfl⟩
abbrev main_while0b_v98 : Ref sig .tc := ⟨.hbm, 123, rfl⟩
abbrev main_while0b_c_23 : Ref sig .tc := ⟨.hbm, 124, rfl⟩
abbrev main_while0b_v99 : Ref sig .tc := ⟨.hbm, 125, rfl⟩
abbrev main_while0b_v100 : Ref sig .tc := ⟨.hbm, 126, rfl⟩
abbrev main_while0b_c_24 : Ref sig .tc := ⟨.hbm, 127, rfl⟩
abbrev main_while0b_v101 : Ref sig .tc := ⟨.hbm, 128, rfl⟩
abbrev main_while0b_v102 : Ref sig .tc := ⟨.hbm, 129, rfl⟩
abbrev main_while0b_v103 : Ref sig .tc := ⟨.hbm, 130, rfl⟩
abbrev main_while0b_v104 : Ref sig .tc := ⟨.hbm, 131, rfl⟩
abbrev main_while0b_v105 : Ref sig .tc := ⟨.hbm, 132, rfl⟩
abbrev main_while0b_v106 : Ref sig .tc := ⟨.hbm, 133, rfl⟩
abbrev main_while0b_c_25 : Ref sig .tc := ⟨.hbm, 134, rfl⟩
abbrev main_while0b_v107 : Ref sig .tc := ⟨.hbm, 135, rfl⟩
abbrev main_while0b_c_26 : Ref sig .tc := ⟨.hbm, 136, rfl⟩
abbrev main_while0b_v108 : Ref sig .tc := ⟨.hbm, 137, rfl⟩
abbrev main_while0b_v109 : Ref sig .tc := ⟨.hbm, 138, rfl⟩
abbrev main_while0b_v110 : Ref sig .tc := ⟨.hbm, 139, rfl⟩
abbrev main_while0b_v111 : Ref sig .tc := ⟨.hbm, 140, rfl⟩
abbrev main_while0b_v112 : Ref sig .tc := ⟨.hbm, 141, rfl⟩
abbrev main_while0b_c_27 : Ref sig .tc := ⟨.hbm, 142, rfl⟩
abbrev main_while0b_v113 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩

abbrev nD : Nat := 1
abbrev τ : Topo := Topo.v7x

variable {F : FTy → Type} [FloatOps F]

abbrev main_while0_count : Scf.Loop 32 := ⟨0#32, 512#32, 1#32⟩
-- ==== Proof.Block.lean ====
/-
  What one run of the gather's body leaves in the result's block: eight rows, each one of the eight staged masks multiplied
  by its keep word as a float.
-/
module

public import proofs.«01_k».proof.Proof.Gen.MaskGatherIdeal.Frame
public import Idealize.ShloMosaic.Lib.Pipeline.ValueKit
public import Idealize.ShloMosaic.Lib.PointwiseCore

@[expose] public section

noncomputable section

namespace Cert.Proof

open Cert.MaskGatherIdeal Cert.MaskGatherIdeal.Gen

open Idealize.ShloMosaic
open Idealize.ShloMosaic.TcCoe Idealize.ShloMosaic.Tactic

variable {F : FTy → Type} [FloatOps F]

/-- The result's block at grid point `i`, from the keep words `kp` and the eight staged masks `X 0` … `X 7`. -/
def gBlk (i : grid0.Coords) (kp : S512.Idx → Elt F .i32) (X : Fin 8 → S1x512x512.Idx → F .f32) : S8x512x512.Idx → F .f32 :=
  fun x => FloatOps.mulf (X (x 0) (ix3 0 (x 1) (x 2)))
    (Scalar.sitofp .f32 (kp (ix1 ⟨8 * (i 0).val + (x 0).val, by have := (i 0).isLt; have := (x 0).isLt; simp at *; omega⟩)))

/-- The word a one-word load at offset `o` reads. -/
theorem ld_word {e : EltTy} (kp : S512.Idx → Elt F e) (o : ℕ) (hb : ∀ a, (![o] : Fin 1 → ℕ) a + (![1] : Fin 1 → ℕ) a ≤ S512.size a)
    (z : (Rect.unit (s := S512) ![o] ![1] hb).shape.Idx) (n : Fin 512) (hn : o = n.val) :
    View.ld kp (Rect.unit (s := S512) ![o] ![1] hb) z = kp (ix1 n) := by
  unfold View.ld
  congr 1
  funext a
  apply Fin.ext
  have hz : (z 0).val = 0 := by have : (z 0).val < 1 := (z 0).isLt; omega
  fin_cases a
  show o + 1 * (z 0).val = n.val
  omega

/-- The word offset of grid point `i`'s row `j`. -/
theorem word_off (i : grid0.Coords) (j : ℕ) (hj : j < 8) :
    BitVec.toNat (Scalar.indexCast (Scalar.addi (Scalar.muli (BitVec.ofNat 32 (i 0).val) 8#32) (BitVec.ofNat 32 j))) = 8 * (i 0).val + j := by
  have hi : (i 0).val < 64 := (i 0).isLt
  show (BitVec.ofNat 32 (i 0).val * 8#32 + BitVec.ofNat 32 j).toNat = _
  simp only [BitVec.toNat_add, BitVec.toNat_mul, BitVec.toNat_ofNat]
  omega

/-- One stored row, read at its index, is the block there. -/
theorem gBlk_row (i : grid0.Coords) (kp : S512.Idx → Elt F .i32) (X : Fin 8 → S1x512x512.Idx → F .f32) (j : Fin 8) (o : ℕ)
    (hb : ∀ a, (![o] : Fin 1 → ℕ) a + (![1] : Fin 1 → ℕ) a ≤ S512.size a) (z : (Rect.unit (s := S512) ![o] ![1] hb).shape.Idx)
    (ho : o = 8 * (i 0).val + j.val) (x : S1x512x512.Idx) (y : S8x512x512.Idx)
    (h0 : (y 0).val = j.val + (x 0).val) (h1 : (y 1).val = (x 1).val) (h2 : (y 2).val = (x 2).val) :
    shapeCast S1x512x512 (mulf (shapeCast S512x512 (X j) shapeCasts_S1x512x512_S512x512)
        (broadcast S512x512 (Scalar.sitofp .f32 (View.ld (Val := Elt F) kp (Rect.unit (s := S512) ![o] ![1] hb) z))))
      shapeCasts_S512x512_S1x512x512 x = gBlk i kp X y := by
  have hx0 : (x 0).val = 0 := by have : (x 0).val < 1 := (x 0).isLt; omega
  have hj : y 0 = j := Fin.ext (by rw [h0, hx0]; rfl)
  rw [ld_word (F := F) kp o hb z ⟨8 * (i 0).val + j.val, by have : (i 0).val < 64 := (i 0).isLt; omega⟩ ho]
  unfold gBlk
  have e1 : y 1 = x 1 := Fin.ext h1
  have e2 : y 2 = x 2 := Fin.ext h2
  subst hj
  idx_vars x
  pointwise
  rw [e1, e2]

set_option maxHeartbeats 1000000 in
/-- What the body leaves in the result's block, from the eight staged masks and the keep table it is run with. -/
theorem out_eq (c : Dev nD) (i : grid0.Coords) (M0 : Memref sig .tc .vmem S1x512x512 .f32) (h0 : M0.IsWhole) (M1 : Memref sig .tc .vmem S1x512x512 .f32) (h1 : M1.IsWhole) (M2 : Memref sig .tc .vmem S1x512x512 .f32) (h2 : M2.IsWhole) (M3 : Memref sig .tc .vmem S1x512x512 .f32) (h3 : M3.IsWhole) (M4 : Memref sig .tc .vmem S1x512x512 .f32) (h4 : M4.IsWhole) (M5 : Memref sig .tc .vmem S1x512x512 .f32) (h5 : M5.IsWhole) (M6 : Memref sig .tc .vmem S1x512x512 .f32) (h6 : M6.IsWhole) (M7 : Memref sig .tc .vmem S1x512x512 .f32) (h7 : M7.IsWhole)
    (M8 : Memref sig .tc .vmem S8x512x512 .f32) (h8 : M8.IsWhole) (x0 x1 x2 x3 x4 x5 x6 x7 : Vec F S1x512x512 .f32)
    (t0 : TbBuf0 (F := F) c tbM0_0) (t1 : TbBuf0 (F := F) c tbM0_1) :
    out0_A_8 c i M0 h0 M1 h1 M2 h2 M3 h3 M4 h4 M5 h5 M6 h6 M7 h7 M8 h8 x0 x1 x2 x3 x4 x5 x6 x7 t0 t1 = gBlk i t1 ![x0, x1, x2, x3, x4, x5, x6, x7] := by
  unfold out0_A_8
  rw [View.read_writes_junk_eq_canon]
  unfold kernelRun0_A
  dsimp only
  funext y
  canon_tiles x h
  all_goals sl_unfold_words
  all_goals open_payloads
  all_goals simp only [Memref.IsWhole.read_unread]
  · exact gBlk_row (F := F) i t1 ![x0, x1, x2, x3, x4, x5, x6, x7] 7 _ _ _ (word_off i 7 (by decide)) x y h0 h1 h2
  · exact gBlk_row (F := F) i t1 ![x0, x1, x2, x3, x4, x5, x6, x7] 6 _ _ _ (word_off i 6 (by decide)) x y h0 h1 h2
  · exact gBlk_row (F := F) i t1 ![x0, x1, x2, x3, x4, x5, x6, x7] 5 _ _ _ (word_off i 5 (by decide)) x y h0 h1 h2
  · exact gBlk_row (F := F) i t1 ![x0, x1, x2, x3, x4, x5, x6, x7] 4 _ _ _ (word_off i 4 (by decide)) x y h0 h1 h2
  · exact gBlk_row (F := F) i t1 ![x0, x1, x2, x3, x4, x5, x6, x7] 3 _ _ _ (word_off i 3 (by decide)) x y h0 h1 h2
  · exact gBlk_row (F := F) i t1 ![x0, x1, x2, x3, x4, x5, x6, x7] 2 _ _ _ (word_off i 2 (by decide)) x y h0 h1 h2
  · exact gBlk_row (F := F) i t1 ![x0, x1, x2, x3, x4, x5, x6, x7] 1 _ _ _ (word_off i 1 (by decide)) x y h0 h1 h2
  · exact gBlk_row (F := F) i t1 ![x0, x1, x2, x3, x4, x5, x6, x7] 0 _ _ _ (word_off i 0 (by decide)) x y (by simpa using h0) h1 h2

variable (m : (ℓ : Loc nD τ sig) → Buf (Elt F) ℓ)

/-- What the body leaves in the result's block at grid point `t`. -/
theorem outsAt_eq (hO : Ok m) (c : Dev nD) (t : Fin (cfgM m hO).N) :
    outsAt0 m hO c t = gBlk (grid0.coords t) (tbl m 1) ![iblk m hO c 0 t, iblk m hO c 1 t, iblk m hO c 2 t, iblk m hO c 3 t,
      iblk m hO c 4 t, iblk m hO c 5 t, iblk m hO c 6 t, iblk m hO c 7 t] := by
  unfold outsAt0
  exact out_eq c (grid0.coords t) _ _ _ _ _ _ _ _ _ _ _ _ _ _ _ _ _ _ _ _ _ _ _ _ _ _ _ _

end Cert.Proof
-- ==== Proof.Range.lean ====
/-
  The precondition read back: where `in_range` holds, every word of the table of rows, read as a natural number, is below 512;
  and where that holds, every block the gather fetches lies inside the array of masks.
-/
module

public import proofs.«01_k».proof.Defs
public import proofs.«01_k».proof.Proof.Gen.MaskGather
public import proofs.«01_k».proof.Proof.Gen.MaskGatherIdeal
public import proofs.«01_k».proof.Proof.Gen.Pre_in_range
public import Idealize.ShloMosaic.Lib.ReduceAll
public import Idealize.ShloMosaic.Lib.StableHlo.Predicate
public import Idealize.ShloMosaic.Lib.PointwiseCore

@[expose] public section

noncomputable section

namespace Cert.Proof

open Idealize.ShloMosaic

/-- A word that is at least 0 and below 512, both read signed, is below 512 read unsigned. -/
theorem lt_of_signed (w : BitVec 32) (h0 : IntOp.cmpi .sge w 0#32 = 1#1) (h1 : IntOp.cmpi .slt w 512#32 = 1#1) : w.toNat < 512 := by
  have a0 : BitVec.sle 0#32 w = true := (StableHlo.Predicate.ofBool_eq_one_iff _).1 h0
  have a1 : BitVec.slt w 512#32 = true := (StableHlo.Predicate.ofBool_eq_one_iff _).1 h1
  rw [BitVec.sle_iff_toInt_le] at a0
  rw [BitVec.slt_iff_toInt_lt] at a1
  have e0 : (0#32 : BitVec 32).toInt = 0 := by decide
  have e1 : (512#32 : BitVec 32).toInt = 512 := by decide
  rw [e0] at a0
  rw [e1] at a1
  have := BitVec.toInt_eq_toNat_cond w
  have := w.isLt
  split at * <;> omega

/-- Where `in_range` is all ones, every word of its first argument is below 512. -/
theorem lt_of_in_range {F : FTy → Type} [FloatOps F] (src keep : IVec Pre_in_range.S512 32) (M : FVec F Pre_in_range.S512x512x512 .f32)
    (h : Pre_in_range.fn src keep M = fun _ => 1#1) (x : Pre_in_range.S512.Idx) : (src x).toNat < 512 := by
  haveI : Subsingleton Pre_in_range.S_.Idx := ⟨fun a b => funext fun k => k.elim0⟩
  have e := congrFun h (fun k => k.elim0)
  unfold Pre_in_range.fn at e
  have hx := Host.reduce_andi_all _ _ _ _ _ e x
  obtain ⟨h0, h1⟩ := IntOp.andi_eq_one.1 hx
  exact lt_of_signed _ h0 h1

/-- The block of masks that a table word below 512 names ends inside the array. -/
theorem block_in (v : BitVec 32) (hv : v.toNat < 512) (a : Fin 3) :
    ((![v.toNat, (0#32 : BitVec 32).toNat, (0#32 : BitVec 32).toNat] : Fin 3 → ℕ) a + 1) * MaskGather.S1x512x512.size a ≤ MaskGather.S512x512x512.size a := by
  match a with
  | ⟨0, _⟩ => show (v.toNat + 1) * 1 ≤ 512; omega
  | ⟨1, _⟩ => show (0 + 1) * 512 ≤ 512; omega
  | ⟨2, _⟩ => show (0 + 1) * 512 ≤ 512; omega

/-- Every block that the gather fetches lies inside the array of masks, if the table's words are below 512. -/
theorem ok_bits (pf : MaskGather.pre0.Contents (Elt Bits)) (h : ∀ x, (pf 0 x : BitVec 32).toNat < 512) : MaskGather.ok0 pf := by
  refine ⟨?_, ?_, ?_, ?_, ?_, ?_, ?_, ?_⟩ <;> intro i <;> exact ⟨fun a => block_in _ (h _) a, Or.inl rfl⟩

/-- The same of the idealized gather. -/
theorem ok_ideal (pf : MaskGatherIdeal.pre0.Contents (Elt Ideal)) (h : ∀ x, (pf 0 x : BitVec 32).toNat < 512) : MaskGatherIdeal.ok0 pf := by
  refine ⟨?_, ?_, ?_, ?_, ?_, ?_, ?_, ?_⟩ <;> intro i <;> exact ⟨fun a => block_in _ (h _) a, Or.inl rfl⟩

end Cert.Proof
-- ==== Proof.Rows.lean ====
/-
  The reference's rows: what `mask_rows` computes at an index, where every word of the table of rows is below 512.
-/
module

public import proofs.«01_k».proof.Defs
public import proofs.«01_k».proof.Proof.Gen.MaskRowsIdeal
public import proofs.«01_k».proof.Proof.Range
public import Idealize.ShloMosaic.Lib.Claim
public import Idealize.ShloMosaic.Lib.Pointwise

@[expose] public section

noncomputable section

namespace Cert.Proof

open Idealize.ShloMosaic Idealize.ShloMosaic.TcCoe Idealize.SL.Sem Cert.MaskRowsIdeal

/-- The array of rows: row `r` is the mask whose number the table `src` gives at `r`, multiplied by the keep word at `r` as a float. -/
def rows {F : FTy → Type} [FloatOps F] (src keep : S512.Idx → BitVec 32) (M : S512x512x512.Idx → F .f32) : S512x512x512.Idx → F .f32 :=
  fun x => FloatOps.mulf (M (ix3 (Fin.ofNat 512 (src (ix1 (x 0))).toNat) (x 1) (x 2))) (Scalar.sitofp .f32 (keep (ix1 (x 0))))

/-- The gather of whole masks at an index: the mask that the table's word names, when that word is below 512. -/
theorem gather_mask {α : Type} (M : S512x512x512.Idx → α) (idx : IVec S512x1 32) (r : Fin 512) (y z : Fin 512)
    (h : (idx (ix2 r 0)).toNat < 512) :
    Host.gather gather_S512x512x512_S512x1_S512x512x512_12_0_n_n_0_1_1512512 M idx (ix3 r y z)
      = M (ix3 (Fin.ofNat 512 (idx (ix2 r 0)).toNat) y z) := by
  unfold Host.gather
  refine congrArg M (funext fun a => Fin.ext ?_)
  match a with
  | ⟨0, _⟩ =>
    have e : min ((idx (ix2 r 0)).toInt.toNat) 511 = (idx (ix2 r 0)).toNat % 512 := by
      rw [StableHlo.Predicate.toInt_eq_toNat_of_lt (by omega)]; omega
    have hs : gather_S512x512x512_S512x1_S512x512x512_12_0_n_n_0_1_1512512.siIdx (ix3 r y z) ⟨0, by decide⟩ = ix2 r 0 := by
      funext b
      match b with
      | ⟨0, _⟩ => rfl
      | ⟨1, _⟩ => rfl
    rw [← hs] at e
    rw [← hs]
    exact e
  | ⟨1, _⟩ => show 0 + 0 + y.val = y.val; omega
  | ⟨2, _⟩ => show 0 + 0 + z.val = z.val; omega

/-- A word below 512 is not negative: the reference's reading of a negative number from the end leaves it. -/
theorem wrapped_word (w : BitVec 32) (h : w.toNat < 512) :
    Scalar.select (IntOp.cmpi .slt w 0#32) (IntOp.addi w 512#32) w = w := by
  have hm : BitVec.slt w 0#32 = false := by
    apply Bool.eq_false_iff.2
    rw [Ne, BitVec.slt_iff_toInt_lt, StableHlo.Predicate.toInt_eq_toNat_of_lt (by omega)]
    have e0 : (0#32 : BitVec 32).toInt = 0 := by decide
    omega
  have hc : IntOp.cmpi .slt w 0#32 = 0#1 := congrArg BitVec.ofBool hm
  rw [hc]
  rfl

/-- The reference runs; its result is the array of rows of its arguments, and its arguments end unchanged. -/
theorem run_rows (m : (ℓ : Loc nD τ sig) → Buf (Elt Ideal) ℓ) (ρ : Dev nD → PrngReg)
    (h : ∀ (c : Dev nD) (x : S512.Idx), ((m ((c.tc : Thread nD τ).loc main_arg0) : S512.Idx → BitVec 32) x).toNat < 512) :
    θ_run (defs (F := Ideal)) (onTc (τ := τ) (main (F := Ideal))) ⟨m, fun _ => 0, ρ⟩ (fun r => ∀ c : Dev nD,
      r.2.mem ((c.tc : Thread nD τ).loc main_v10) = rows (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  funext x
  have hs := h c (ix1 (x 0))
  idx_vars x
  rw [show ∀ (A B : FVec Ideal S512x512x512 .f32) (j : S512x512x512.Idx), mulf A B j = FloatOps.mulf (A j) (B j) from fun _ _ _ => rfl]
  rw [gather_mask]
  · pointwise
    rw [wrapped_word _ hs]
    rfl
  · pointwise
    rw [wrapped_word _ hs]
    exact hs

/-- The reference runs, its arguments end unchanged, and every semaphore counter ends at zero. -/
theorem frame_rows (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  hlo_run
  · exact fun _ => ⟨trivial, trivial, trivial⟩
  · funext g
    exact nomatch g.2

end Cert.Proof
-- ==== Proof.Value.lean ====
/-
  What the gather leaves in its result array: the block of every grid point is eight rows of the whole result, and the blocks
  cover it.
-/
module

public import proofs.«01_k».proof.Proof.Block
public import proofs.«01_k».proof.Proof.Rows
public import proofs.«01_k».proof.Proof.Range

@[expose] public section

noncomputable section

namespace Cert.Proof

open Cert.MaskGatherIdeal Cert.MaskGatherIdeal.Gen

open Idealize.ShloMosaic Idealize.SL.Sem
open Idealize.ShloMosaic.TcCoe Idealize.ShloMosaic.Tactic

variable {F : FTy → Type} [FloatOps F] (m : (ℓ : Loc nD τ sig) → Buf (Elt F) ℓ)

/-- The blocks written back cover the result. -/
theorem covers (hO : Ok m) : ((cfgM m hO).win 8).Covers := of_decide_eq_true (by sl_kernel_rfl)

/-- The result's block at grid point `t` is the `t`-th of the leading axis. -/
theorem index_out (hO : Ok m) (t : Fin (cfgM m hO).N) : ((cfgM m hO).win 8).index t = ![(grid0.coords t 0).val, 0, 0] := by
  have h : (grid0.coords t 0).val < 64 := (grid0.coords t 0).isLt
  show ![(BitVec.ofNat 32 (grid0.coords t 0).val).toNat, 0, 0] = _
  rw [BitVec.toNat_ofNat, Nat.mod_eq_of_lt (by omega)]

/-- The table's word that an index map reads at the offset of grid point `i`'s row `j`. -/
theorem table_word (pf : pre0.Contents (Elt F)) (i : grid0.Coords) (j : ℕ) (hj : j < 8) (n : Fin 512) (hn : n.val = 8 * (i 0).val + j)
    (hb : ∀ a, (![(Scalar.indexCast (Scalar.addi (Scalar.muli (BitVec.ofNat 32 (i 0).val) 8#32) (BitVec.ofNat 32 j))).toNat] : Fin 1 → ℕ) a
      + S1.size a ≤ S512.size a) (h1 : S1.numel = 1) :
    (pf.at 0 (Rect.unit (s := S512) _ S1.size hb) h1 : BitVec 32) = pf 0 (ix1 n) := by
  refine congrArg (pf 0) (funext fun a => Fin.ext ?_)
  match a with
  | ⟨0, _⟩ =>
    show _ + 1 * _ = n.val
    rw [hn, ← word_off i j hj]
    have hz : (Shape.Idx.first (s := S1) (h1.symm ▸ Nat.one_pos) 0).val = 0 := Nat.lt_one_iff.1 (Fin.isLt _)
    show _ + 1 * (Shape.Idx.first (s := S1) (h1.symm ▸ Nat.one_pos) 0).val = _
    rw [hz]
    rfl

/-- The eight staged masks at grid point `t` are the rows of the masks that the table names for it. -/
theorem staged (hO : Ok m) (c : Dev nD) (t : Fin (cfgM m hO).N) (j : Fin 8) (x : S1x512x512.Idx) (n : Fin 512)
    (hn : n.val = 8 * (grid0.coords t 0).val + j.val) (h : ∀ x, (tbl m 0 x : BitVec 32).toNat < 512) :
    (![iblk m hO c 0 t, iblk m hO c 1 t, iblk m hO c 2 t, iblk m hO c 3 t,
      iblk m hO c 4 t, iblk m hO c 5 t, iblk m hO c 6 t, iblk m hO c 7 t] : Fin 8 → S1x512x512.Idx → F .f32) j x
      = V m c main_arg2 (ix3 (Fin.ofNat 512 (tbl m 0 (ix1 n) : BitVec 32).toNat) (x 1) (x 2)) := by
  have hx : (x 0).val < 1 := (x 0).isLt
  have hw := h (ix1 n)
  fin_cases j <;> blk_simp [iblk] <;>
    refine congrArg (V m c main_arg2) (funext fun a => Fin.ext ?_)
  all_goals
    match a with
    | ⟨0, _⟩ =>
      show ((tbl m).at 0 _ _ : BitVec 32).toNat * 1 + 1 * (x 0).val = (tbl m 0 (ix1 n) : BitVec 32).toNat % 512
      erw [table_word (tbl m) (grid0.coords t) _ (by decide) n hn]
      omega
    | ⟨1, _⟩ => show 0 * 512 + 1 * (x 1).val = (x 1).val; omega
    | ⟨2, _⟩ => show 0 * 512 + 1 * (x 2).val = (x 2).val; omega

/-- Where an index of the result's block at grid point `t` lies in the whole result. -/
theorem out_emb (hO : Ok m) (t : Fin (cfgM m hO).N) (y : S8x512x512.Idx) (n : Fin 512)
    (hn : n.val = 8 * (grid0.coords t 0).val + (y 0).val) :
    (((cfgM m hO).win 8).blk t).view.emb y = ix3 n (y 1) (y 2) := by
  funext a
  apply Fin.ext
  match a with
  | ⟨0, _⟩ =>
    refine (congrArg (· * 8 + 1 * (y 0).val) (congrFun (index_out m hO t) (0 : Fin 3))).trans ?_
    show (grid0.coords t 0).val * 8 + 1 * (y 0).val = n.val
    omega
  | ⟨1, _⟩ => show 0 * 512 + 1 * (y 1).val = (y 1).val; omega
  | ⟨2, _⟩ => show 0 * 512 + 1 * (y 2).val = (y 2).val; omega

/-- The block that the body leaves at grid point `t` is the block of the array of rows there. -/
theorem block_rows (hO : Ok m) (c : Dev nD) (h : ∀ x, (tbl m 0 x : BitVec 32).toNat < 512) (t : Fin (cfgM m hO).N) (y : S8x512x512.Idx) :
    outsAt0 m hO c t y = rows (tbl m 0) (tbl m 1) (V m c main_arg2) ((((cfgM m hO).win 8).blk t).view.emb y) := by
  have ht : (grid0.coords t 0).val < 64 := (grid0.coords t 0).isLt
  have hy : (y 0).val < 8 := (y 0).isLt
  rw [out_emb m hO t y ⟨8 * (grid0.coords t 0).val + (y 0).val, by omega⟩ rfl, outsAt_eq]
  exact congrArg₂ FloatOps.mulf (staged m hO c t (y 0) (ix3 0 (y 1) (y 2)) ⟨8 * (grid0.coords t 0).val + (y 0).val, by omega⟩ rfl h) rfl

/-- The result's array when the gather has run: the rows of its arguments. -/
theorem out_array (hO : Ok m) (c : Dev nD) (h : ∀ x, (tbl m 0 x : BitVec 32).toNat < 512) :
    (dats m hO 0 c).arrAt 8 (cfgM m hO).N = rows (tbl m 0) (tbl m 1) (V m c main_arg2) := by
  refine (dats m hO 0 c).arrAt_eq_of_covers 8 _ (covers m hO) fun t hf y => ?_
  blk_simp
  rw [after0_8]
  exact block_rows m hO c h t y

/-- The gather runs; its result is the array of rows of its arguments, and its arguments end unchanged. -/
theorem run_gather (ρ : Dev nD → PrngReg) (hO : Ok m) (h : ∀ x, (tbl m 0 x : BitVec 32).toNat < 512) :
    θ_run (defs (F := F)) (onTc (τ := τ) (main (F := F))) ⟨m, fun _ => 0, ρ⟩ (fun r => ∀ c : Dev nD,
      r.2.mem ((c.tc : Thread nD τ).loc main_v0) = rows (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h' c => ⟨by
      obtain rfl : c = 0 := Subsingleton.elim _ _
      exact (h'.1.out_eq 0 8).trans (out_array m hO 0 h), h'.2 c⟩)
    (θ_run_and (run_main m ρ hO) (unchanged m ρ hO))

end Cert.Proof
-- ==== Proof.SortCount.lean ====
/-
  The number of valid boxes, as the first kernel counts it, and that its loops are in order for every count it can be.
-/
module

public import proofs.«01_k».proof.Proof.Gen.NmsSortIdeal.Launch
public import proofs.«01_k».proof.Proof.Gen.NmsSortIdeal.Skeleton
public import Idealize.ShloMosaic.Lib.WordSum

@[expose] public section

noncomputable section

namespace Cert.Proof.Sort

open Cert.NmsSortIdeal Cert.NmsSortIdeal.Gen
open Idealize.ShloMosaic

/-- The loops' side conditions hold of every count up to 512. -/
theorem chk_le : ∀ n : Fin 513, k0_chk1 (BitVec.ofNat 32 n) := by decide +kernel

/-- A sum of 512 widened bits is at most 512. -/
theorem count_le (v : IVec S1x512 1) : (extractAt ![0,0,0] (shapeCast S1x1x1
    (multiReductionI .add [1, 2] S1 (shapeCast S1x1x512 (extui 32 v natLt_1_32) shapeCasts_S1x512_S1x1x512) 0#32 reduces_S1x1x512_S1 rfl)
    shapeCasts_S1_S1x1x1) inpos_S1x1x1_p0_0_0).toNat ≤ 512 := by
  have hb : ∀ i, ((shapeCast S1x1x512 (extui 32 v natLt_1_32) shapeCasts_S1x512_S1x1x512) i).toNat ≤ 1 := by
    intro i
    show (BitVec.setWidth 32 (v _)).toNat ≤ 1
    have := (v (Shape.reshapeEquiv shapeCasts_S1x512_S1x1x512 i)).isLt
    simp only [BitVec.toNat_setWidth]
    refine (Nat.mod_le _ _).trans ?_
    omega
  have hs : ∀ S : Finset S1x1x512.Idx, ∑ i ∈ S, ((shapeCast S1x1x512 (extui 32 v natLt_1_32) shapeCasts_S1x512_S1x1x512) i).toNat ≤ 512 := by
    intro S
    refine (Finset.sum_le_card_nsmul S _ 1 fun i _ => hb i).trans ?_
    rw [smul_eq_mul, mul_one]
    refine (Finset.card_le_univ S).trans ?_
    decide +kernel
  exact (WordSum.toNat_multiReductionI_add _ reduces_S1x1x512_S1 rfl _ (lt_of_le_of_lt (hs _) (by decide))).trans_le (hs _)

theorem chk_of_le (v : BitVec 32) (h : v.toNat ≤ 512) : k0_chk1 v := by
  have := chk_le ⟨v.toNat, by omega⟩
  simpa using this

variable {F : FTy → Type} [FloatOps F]

/-- The count of the valid boxes from the sorted scores. -/
def cntOf (s : FVec F S1x512 .f32) : BitVec 32 := extractAt ![0,0,0] (k0_pay50 s k0_pay48) inpos_S1x1x1_p0_0_0

theorem cntOf_le (s : FVec F S1x512 .f32) : (cntOf s).toNat ≤ 512 := count_le (k0_pay49 s k0_pay48)

theorem chk_cntOf (s : FVec F S1x512 .f32) : k0_chk1 (cntOf s) := chk_of_le _ (cntOf_le s)

end Cert.Proof.Sort
-- ==== Proof.SortBody.lean ====
/-
  The first kernel of the program (`cc0_nms_sort`): one run of its body from whole buffers.
-/
module

public import proofs.«01_k».proof.Proof.Gen.NmsSortIdeal.Launch
public import proofs.«01_k».proof.Proof.Gen.NmsSortIdeal.Skeleton
public import proofs.«01_k».proof.Proof.Gen.NmsSortIdeal.Loops
public import proofs.«01_k».proof.Proof.SortCount
public import Idealize.ShloMosaic.Lib.Tactic

@[expose] public section

noncomputable section

namespace Cert.Proof.Sort

open Cert.NmsSortIdeal Cert.NmsSortIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

set_option maxHeartbeats 4000000 in
noncomputable def sortRun (c : Dev nD)
    (M0 : Memref sig .tc .vmem S512x4 .f32) (h0 : M0.IsWhole)
    (M1 : Memref sig .tc .vmem S512x1 .f32) (h1 : M1.IsWhole)
    (M2 : Memref sig .tc .vmem S1x512 .f32) (h2 : M2.IsWhole)
    (M3 : Memref sig .tc .vmem S1x512 .i32) (h3 : M3.IsWhole)
    (M4 : Memref sig .tc .vmem S512x4 .f32) (h4 : M4.IsWhole)
    (M5 : Memref sig .tc .vmem S512x1 .i32) (h5 : M5.IsWhole)
    (M6 : Memref sig .tc .vmem S512x1 .f32) (h6 : M6.IsWhole)
    (M7 : Memref sig .tc .vmem S512x1 .i32) (h7 : M7.IsWhole)
    (M8 : Memref sig .tc .vmem S512x1 .i32) (h8 : M8.IsWhole)
    (M9 : Memref sig .tc .vmem S512x1 .i32) (h9 : M9.IsWhole)
    (M10 : Memref sig .tc .vmem S512x1 .i32) (h10 : M10.IsWhole)
    (M11 : Memref sig .tc .vmem S512x512 .f32) (h11 : M11.IsWhole)
    (M12 : Memref sig .tc .vmem S1x512 .i32) (h12 : M12.IsWhole)
    (f0 : Bf (F := F) c M0) (f1 : Bf (F := F) c M1) (f2 : Bf (F := F) c M2) (f3 : Bf (F := F) c M3) :
    { W : Bf (F := F) c M4 × Bf (F := F) c M5 × Bf (F := F) c M6 × Bf (F := F) c M7 × Bf (F := F) c M8
          × Bf (F := F) c M9 × Bf (F := F) c M10 //
      ∀ (g4 : Bf (F := F) c M4) (g5 : Bf (F := F) c M5) (g6 : Bf (F := F) c M6) (g7 : Bf (F := F) c M7)
        (g8 : Bf (F := F) c M8) (g9 : Bf (F := F) c M9) (g10 : Bf (F := F) c M10) (g11 : Bf (F := F) c M11)
        (g12 : Bf (F := F) c M12) (E : Set ℕ) (Q : PUnit → sProp 𝕄),
        iprop(pt c M0 f0 ∗ pt c M1 f1 ∗ pt c M2 f2 ∗ pt c M3 f3 ∗ pt c M4 g4 ∗ pt c M5 g5 ∗ pt c M6 g6 ∗ pt c M7 g7
            ∗ pt c M8 g8 ∗ pt c M9 g9 ∗ pt c M10 g10 ∗ pt c M11 g11 ∗ pt c M12 g12
            ∗ (iprop(pt c M0 f0 ∗ pt c M1 f1 ∗ pt c M2 f2 ∗ pt c M3 f3 ∗ pt c M4 W.1 ∗ pt c M5 W.2.1 ∗ pt c M6 W.2.2.1
                ∗ pt c M7 W.2.2.2.1 ∗ pt c M8 W.2.2.2.2.1 ∗ pt c M9 W.2.2.2.2.2.1 ∗ pt c M10 W.2.2.2.2.2.2
                ∗ (∃ f, pt c M11 f) ∗ (∃ f, pt c M12 f)) -∗ Q ⟨⟩))
          ⊢ wp frame (wpE (defs₀ (F := F)) Variants.none c none) E
              (cc0_nms_sort M0 h0 M1 h1 M2 h2 M3 h3 M4 h4 M5 h5 M6 h6 M7 h7 M8 h8 M9 h9 M10 h10 M11 h11 M12 h12) Q } := by
  refine ⟨⟨?_, ?_, ?_, ?_, ?_, ?_, ?_⟩, fun g4 g5 g6 g7 g8 g9 g10 g11 g12 E Q => ?run⟩
  case run =>
    iintro ⟨H0, H1, H2, H3, H4, H5, H6, H7, H8, H9, H10, H11, H12, Hk⟩
    sl_exec! (disch := exact chk_cntOf _)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    iexists _; iexact H12

end Cert.Proof.Sort
-- ==== Proof.SortRegion.lean ====
/-
  The sort's region: its proof data and the body's obligation, and the run of the whole program around it.
-/
module

public import proofs.«01_k».proof.Proof.SortBody
public import Idealize.ShloMosaic.Lib.Pipeline.FrameSuffix

@[expose] public section

noncomputable section

namespace Cert.Proof.Sort

open Cert.NmsSortIdeal Cert.NmsSortIdeal.Gen

open Idealize.ShloMosaic
open Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The inputs' blocks as the fetch stages them. -/
abbrev stg0 (c : Dev nD) : (cfg0.win 0).block.Idx → Elt F (cfg0.win 0).elt :=
  ((cfg0.win 0).blk t0_0).view.read (Elt F) (V c main_arg0)
abbrev stg1 (c : Dev nD) : (cfg0.win 1).block.Idx → Elt F (cfg0.win 1).elt :=
  ((cfg0.win 1).blk t0_0).view.read (Elt F) (V c main_v0)
abbrev stg2 (c : Dev nD) : (cfg0.win 2).block.Idx → Elt F (cfg0.win 2).elt :=
  ((cfg0.win 2).blk t0_0).view.read (Elt F) (V c main_v1)
abbrev stg3 (c : Dev nD) : (cfg0.win 3).block.Idx → Elt F (cfg0.win 3).elt :=
  ((cfg0.win 3).blk t0_0).view.read (Elt F) (V c main_v2)

/-- The run over the pipeline's own staging buffers, from the inputs' blocks `f0` … `f3`. -/
def K0 (c : Dev nD) (f0 : Buf (Elt F) ((c : Thread nD τ).loc cc0_stg0_0)) (f1 : Buf (Elt F) ((c : Thread nD τ).loc cc0_stg1_0))
    (f2 : Buf (Elt F) ((c : Thread nD τ).loc cc0_stg2_0)) (f3 : Buf (Elt F) ((c : Thread nD τ).loc cc0_stg3_0)) :=
  sortRun (F := F) c (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_scratch0) (Memref.isWhole_whole _) (Memref.whole cc0_scratch1) (Memref.isWhole_whole _) f0 f1 f2 f3

set_option maxHeartbeats 1000000 in
/-- The run's rule with every buffer held whole. -/
theorem K0_run (c : Dev nD) (f0 f1 f2 f3) g4 g5 g6 g7 g8 g9 g10 g11 g12 (E : Set ℕ) (Q : PUnit → sProp 𝕄) :
    iprop((((c : Thread nD τ).loc cc0_stg0_0) ↦{fullShare} f0) ∗ (((c : Thread nD τ).loc cc0_stg1_0) ↦{fullShare} f1) ∗ (((c : Thread nD τ).loc cc0_stg2_0) ↦{fullShare} f2) ∗ (((c : Thread nD τ).loc cc0_stg3_0) ↦{fullShare} f3) ∗ (((c : Thread nD τ).loc cc0_stg4_0) ↦{fullShare} g4) ∗ (((c : Thread nD τ).loc cc0_stg5_0) ↦{fullShare} g5) ∗ (((c : Thread nD τ).loc cc0_stg6_0) ↦{fullShare} g6) ∗ (((c : Thread nD τ).loc cc0_stg7_0) ↦{fullShare} g7) ∗ (((c : Thread nD τ).loc cc0_stg8_0) ↦{fullShare} g8) ∗ (((c : Thread nD τ).loc cc0_stg9_0) ↦{fullShare} g9) ∗ (((c : Thread nD τ).loc cc0_stg10_0) ↦{fullShare} g10) ∗ (((c : Thread nD τ).loc cc0_scratch0) ↦{fullShare} g11) ∗ (((c : Thread nD τ).loc cc0_scratch1) ↦{fullShare} g12)
        ∗ (iprop((((c : Thread nD τ).loc cc0_stg0_0) ↦{fullShare} f0) ∗ (((c : Thread nD τ).loc cc0_stg1_0) ↦{fullShare} f1) ∗ (((c : Thread nD τ).loc cc0_stg2_0) ↦{fullShare} f2) ∗ (((c : Thread nD τ).loc cc0_stg3_0) ↦{fullShare} f3) ∗ (((c : Thread nD τ).loc cc0_stg4_0) ↦{fullShare} (K0 (F := F) c f0 f1 f2 f3).1.1) ∗ (((c : Thread nD τ).loc cc0_stg5_0) ↦{fullShare} (K0 (F := F) c f0 f1 f2 f3).1.2.1) ∗ (((c : Thread nD τ).loc cc0_stg6_0) ↦{fullShare} (K0 (F := F) c f0 f1 f2 f3).1.2.2.1) ∗ (((c : Thread nD τ).loc cc0_stg7_0) ↦{fullShare} (K0 (F := F) c f0 f1 f2 f3).1.2.2.2.1) ∗ (((c : Thread nD τ).loc cc0_stg8_0) ↦{fullShare} (K0 (F := F) c f0 f1 f2 f3).1.2.2.2.2.1) ∗ (((c : Thread nD τ).loc cc0_stg9_0) ↦{fullShare} (K0 (F := F) c f0 f1 f2 f3).1.2.2.2.2.2.1) ∗ (((c : Thread nD τ).loc cc0_stg10_0) ↦{fullShare} (K0 (F := F) c f0 f1 f2 f3).1.2.2.2.2.2.2) ∗ (∃ f, ((c : Thread nD τ).loc cc0_scratch0) ↦{fullShare} f) ∗ (∃ f, ((c : Thread nD τ).loc cc0_scratch1) ↦{fullShare} f)) -∗ Q ⟨⟩))
      ⊢ wp frame (wpE (defs₀ (F := F)) Variants.none c none) E
          (cc0_nms_sort (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_scratch0) (Memref.isWhole_whole _) (Memref.whole cc0_scratch1) (Memref.isWhole_whole _)) Q := by
  have h := (K0 (F := F) c f0 f1 f2 f3).2 g4 g5 g6 g7 g8 g9 g10 g11 g12 E Q
  simp only [pt, Memref.view_whole, View.set_whole] at h
  exact h

/-- Between the region's ends: the scoped buffers the pipeline does not stage, held at something. -/
abbrev Φ0 (c : Dev nD) : sProp 𝕄 := Pipeline.ΦA spec0 c

/-- The region's proof data from the valuation `V`. -/
def dat0 (c : Dev nD) : Dat τ (Elt F) Unit ℕ (UR sig nD τ) ℕ cfg0 c where
  A w := V c (Pipeline.arrRef spec0 w)
  after w _ := match w with
    | ⟨0, _⟩ => stg0 V c
    | ⟨1, _⟩ => stg1 V c
    | ⟨2, _⟩ => stg2 V c
    | ⟨3, _⟩ => stg3 V c
    | ⟨4, _⟩ => (K0 c (stg0 V c) (stg1 V c) (stg2 V c) (stg3 V c)).1.1
    | ⟨5, _⟩ => (K0 c (stg0 V c) (stg1 V c) (stg2 V c) (stg3 V c)).1.2.1
    | ⟨6, _⟩ => (K0 c (stg0 V c) (stg1 V c) (stg2 V c) (stg3 V c)).1.2.2.1
    | ⟨7, _⟩ => (K0 c (stg0 V c) (stg1 V c) (stg2 V c) (stg3 V c)).1.2.2.2.1
    | ⟨8, _⟩ => (K0 c (stg0 V c) (stg1 V c) (stg2 V c) (stg3 V c)).1.2.2.2.2.1
    | ⟨9, _⟩ => (K0 c (stg0 V c) (stg1 V c) (stg2 V c) (stg3 V c)).1.2.2.2.2.2.1
    | ⟨10, _⟩ => (K0 c (stg0 V c) (stg1 V c) (stg2 V c) (stg3 V c)).1.2.2.2.2.2.2
  Φ _ := Φ0 c
  q _ := fullShare
  owed _ := 0

theorem before0_0 (c : Dev nD) (d) : (dat0 V c).before 0 t0_0 d = stg0 V c := by unfold Dat.before; rw [if_pos (by decide)]; rfl
theorem before0_1 (c : Dev nD) (d) : (dat0 V c).before 1 t0_0 d = stg1 V c := by unfold Dat.before; rw [if_pos (by decide)]; rfl
theorem before0_2 (c : Dev nD) (d) : (dat0 V c).before 2 t0_0 d = stg2 V c := by unfold Dat.before; rw [if_pos (by decide)]; rfl
theorem before0_3 (c : Dev nD) (d) : (dat0 V c).before 3 t0_0 d = stg3 V c := by unfold Dat.before; rw [if_pos (by decide)]; rfl

set_option maxHeartbeats 400000 in
/-- The body's obligation: the staging buffers and the two scratch buffers taken apart, the run applied, all put together again. -/
theorem body0 (c : Dev nD) : BodyObligation (dat0 V c) (defs₀ (F := F)) Variants.none () Set.univ := fun t => by
  obtain rfl := fin_N0 t
  rw [bigSep_W0, bigSep_W0]
  simp only [owns_whole_eq]
  rw [show (dat0 V c).Φ t0_0.castSucc = Φ0 c from rfl, show (dat0 V c).Φ t0_0.succ = Φ0 c from rfl,
    show (dat0 V c).owesAt () t0_0.succ = (dat0 V c).owesAt () t0_0.castSucc from rfl]
  unfold Φ0 Pipeline.ΦA
  rw [scopedRest0_eq]
  iintro ⟨⟨⟨⟨%s0, HS0⟩, ⟨%s1, HS1⟩⟩, HΦ⟩, Howes, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩⟩
  rw [before0_0] at hf0
  rw [before0_1] at hf1
  rw [before0_2] at hf2
  rw [before0_3] at hf3
  subst hf0 hf1 hf2 hf3
  iapply (K0_run c (stg0 V c) (stg1 V c) (stg2 V c) (stg3 V c) f4 f5 f6 f7 f8 f9 f10 s0 s1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  isplitl [HΦ HS0 HS1]
  · isplitl [HS0 HS1]
    · isplitl [HS0]; · iexact HS0
      iexact HS1
    iexact HΦ
  isplitl [Howes]; · iexact Howes
  isplitl [H0]; · iexists _; isplitr; swap; (· iexact H0); ipureintro; dsimp only [dat0]
  isplitl [H1]; · iexists _; isplitr; swap; (· iexact H1); ipureintro; dsimp only [dat0]
  isplitl [H2]; · iexists _; isplitr; swap; (· iexact H2); ipureintro; dsimp only [dat0]
  isplitl [H3]; · iexists _; isplitr; swap; (· iexact H3); ipureintro; dsimp only [dat0]
  isplitl [H4]; · iexists _; isplitr; swap; (· iexact H4); ipureintro; dsimp only [dat0]
  isplitl [H5]; · iexists _; isplitr; swap; (· iexact H5); ipureintro; dsimp only [dat0]
  isplitl [H6]; · iexists _; isplitr; swap; (· iexact H6); ipureintro; dsimp only [dat0]
  isplitl [H7]; · iexists _; isplitr; swap; (· iexact H7); ipureintro; dsimp only [dat0]
  isplitl [H8]; · iexists _; isplitr; swap; (· iexact H8); ipureintro; dsimp only [dat0]
  isplitl [H9]; · iexists _; isplitr; swap; (· iexact H9); ipureintro; dsimp only [dat0]
  iexists _; isplitr; swap; (· iexact H10); ipureintro; dsimp only [dat0]

/-- The buffers as the region finds them. -/
abbrev atRegion (m : (ℓ : Loc nD τ sig) → Buf (Elt F) ℓ) (c : Dev nD) : Valuation τ sig (Elt F) := StableHlo.after hostOps0 fun b => m (c, b)

/-- The proof data of a run from memory `m`. -/
abbrev dats (m : (ℓ : Loc nD τ sig) → Buf (Elt F) ℓ) (_ : Fin 1) (c : Dev nD) : Dat τ (Elt F) Unit ℕ (UR sig nD τ) ℕ cfg0 c :=
  dat0 (fun c b => atRegion m c (Proc.devRef .tc b)) c

set_option maxHeartbeats 1000000 in
/-- The program's run: every array of the region ends as the body leaves it, every other buffer as the host operations leave it. -/
theorem run (m : (ℓ : Loc nD τ sig) → Buf (Elt F) ℓ) (g : Dev nD → PrngReg) :
    θ_run (defs (F := F)) (onTc main) ⟨m, fun _ => 0, g⟩ (fun r =>
      Pipeline.FramePost cfgs (dats m) 0 (Pipeline.afterTail₀ cfgs (dats m) 0 (atRegion m) [hostOps1]) r ∧ r.2.sem = fun _ => 0) := by
  refine Pipeline.θ_run_frame_around cfgs (dats m) 0 launch0 defs₀ Variants.none m g main
    (fun c => (body0 _ c).loose) (fun c => (dats m 0 c).share_full fun _ => rfl) (fun _ _ => rfl) (atRegion m) [hostOps1] ?_ ?_ ?_ ?_ (fun _ _ => rfl) (fun _ _ => rfl)
    _ (fun _ h => h)
  · intro ops ho op hop
    obtain rfl := List.mem_singleton.mp ho
    rw [Pipeline.tailRefs_none _ (by decide)]
    exact Pipeline.sub_ucRefs op (List.forall_iff_forall_mem.mp hostOps1_sub op hop)
  · intro ops ho op hop
    obtain rfl := List.mem_singleton.mp ho
    fin_cases hop <;> rfl
  · intro ops ho op hop w
    obtain rfl := List.mem_singleton.mp ho
    simp only [hostOps1, List.mem_cons, List.not_mem_nil, or_false] at hop
    rcases hop with rfl | rfl | rfl | rfl <;>
      simp only [StableHlo.nullary_writes, StableHlo.unary_writes, StableHlo.binary_writes, Finset.mem_singleton] <;>
      exact StableHlo.devRef_ne_of_ne (by revert w; decide)
  · refine Pipeline.hmain_around cfgs 0 defs₀ Variants.none m main [hostOps0] [hostOps1] ?_ ?_ fun c => main_chain c
    · exact hostOps0_sub
    · exact ⟨rfl, rfl, rfl⟩

/-- The host operations before the region write none of the arguments. -/
theorem atRegion_of (m : (ℓ : Loc nD τ sig) → Buf (Elt F) ℓ) (c : Dev nD) (b : Ref sig .tc) (h : b ≠ main_v0 ∧ b ≠ main_v1 ∧ b ≠ main_v2) :
    atRegion m c (Proc.devRef .tc b) = m ((c : Thread nD τ).loc b) := by
  refine StableHlo.after_of_forall_not_mem _ _ fun op hop hw => ?_
  simp only [hostOps0, List.mem_cons, List.not_mem_nil, or_false] at hop
  rcases hop with rfl | rfl | rfl <;>
    rw [StableHlo.unary_writes, Finset.mem_singleton] at hw <;>
    exact absurd hw (StableHlo.devRef_ne_of_ne (by tauto))

/-- The host operations after the region write none of the arguments either. -/
theorem afterTail_of (m : (ℓ : Loc nD τ sig) → Buf (Elt F) ℓ) (c : Dev nD) (b : Ref sig .tc)
    (h : b ≠ main_v0 ∧ b ≠ main_v1 ∧ b ≠ main_v2) (h' : b ≠ main_c ∧ b ≠ main_v4 ∧ b ≠ main_v5 ∧ b ≠ main_v6) (hw : ∀ w, Pipeline.arrRef spec0 w ≠ b) :
    Pipeline.afterTail₀ cfgs (dats m) 0 (atRegion m) [hostOps1] c b = m ((c : Thread nD τ).loc b) := by
  unfold Pipeline.afterTail₀
  rw [StableHlo.after_of_forall_not_mem _ _ fun op hop hw => ?_, Pipeline.withArrays_of_ne _ _ _ _ _ hw, atRegion_of m c b h]
  simp only [hostOps1, List.flatten_cons, List.flatten_nil, List.append_nil, List.mem_cons, List.not_mem_nil, or_false] at hop
  rcases hop with rfl | rfl | rfl | rfl <;>
    simp only [StableHlo.nullary_writes, StableHlo.unary_writes, StableHlo.binary_writes, Finset.mem_singleton] at hw <;>
    exact absurd hw (StableHlo.devRef_ne_of_ne (by tauto))

/-- The arguments end as they began. -/
theorem args_kept (m : (ℓ : Loc nD τ sig) → Buf (Elt F) ℓ) (r) (h : Pipeline.FramePost cfgs (dats m) 0 (Pipeline.afterTail₀ cfgs (dats m) 0 (atRegion m) [hostOps1]) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  obtain ⟨ha, hr⟩ := h c
  refine ⟨?_, ?_, ?_⟩
  · refine (ha 0).trans (((dats m 0 c).arrAt_in 0 rfl _).trans ?_)
    exact atRegion_of m c main_arg0 (by decide)
  · exact (hr main_arg1 (by decide)).trans (afterTail_of m c main_arg1 (by decide) (by decide) (by decide))
  · exact (hr main_arg2 (by decide)).trans (afterTail_of m c main_arg2 (by decide) (by decide) (by decide))

end Cert.Proof.Sort
-- ==== Proof.SortFrame.lean ====
/-
  The sort's frame, and the same of the program the idealized one was made from: no rule was applied, so the two programs
  are the same one under two names.
-/
module

public import proofs.«01_k».proof.Defs
public import proofs.«01_k».proof.Proof.SortRegion
public import proofs.«01_k».proof.Proof.Gen.NmsSort.Launch

@[expose] public section

noncomputable section

namespace Cert.Proof.Sort

open Idealize.ShloMosaic Idealize.ShloMosaic.TcCoe Idealize.SL.Sem

/-- The frame over any floats. -/
theorem frame {F : FTy → Type} [FloatOps F] (m : (ℓ : Loc NmsSortIdeal.nD NmsSortIdeal.τ NmsSortIdeal.sig) → Buf (Elt F) ℓ)
    (g : Dev NmsSortIdeal.nD → PrngReg) :
    θ_run (NmsSortIdeal.defs (F := F)) (onTc (τ := NmsSortIdeal.τ) (NmsSortIdeal.main (F := F))) ⟨m, fun _ => 0, g⟩ (fun r =>
      (∀ c : Dev NmsSortIdeal.nD,
        r.2.mem ((c.tc : Thread NmsSortIdeal.nD NmsSortIdeal.τ).loc NmsSortIdeal.main_arg0) = m ((c.tc : Thread NmsSortIdeal.nD NmsSortIdeal.τ).loc NmsSortIdeal.main_arg0)
        ∧ r.2.mem ((c.tc : Thread NmsSortIdeal.nD NmsSortIdeal.τ).loc NmsSortIdeal.main_arg1) = m ((c.tc : Thread NmsSortIdeal.nD NmsSortIdeal.τ).loc NmsSortIdeal.main_arg1)
        ∧ r.2.mem ((c.tc : Thread NmsSortIdeal.nD NmsSortIdeal.τ).loc NmsSortIdeal.main_arg2) = m ((c.tc : Thread NmsSortIdeal.nD NmsSortIdeal.τ).loc NmsSortIdeal.main_arg2))
      ∧ r.2.sem = fun _ => 0) :=
  (θ_run _ _ _).mono (fun r h => ⟨fun c => args_kept m r h.1 c, h.2⟩) (run m g)

set_option maxHeartbeats 1000000 in
theorem defs₀_eq {F : FTy → Type} [FloatOps F] : NmsSort.defs₀ (F := F) = NmsSortIdeal.defs₀ (F := F) := by
  unfold NmsSort.defs₀ NmsSortIdeal.defs₀
  refine congrArg Defs.onTc ?_
  funext l a
  match l, a with
  | ⟨0, _⟩, a => rfl

theorem defs_eq {F : FTy → Type} [FloatOps F] : NmsSort.defs (F := F) = NmsSortIdeal.defs (F := F) :=
  congrArg (Pipeline.defs (NmsSortIdeal.pcfgs (F := F))) defs₀_eq

set_option maxHeartbeats 1000000 in
/-- The frame of the program as written. -/
theorem frame_bits : quiescent_NmsSort (hNmsSort := NmsSort.Gen.facts) := by
  unfold quiescent_NmsSort
  rw [defs_eq]
  exact fun m g _ => frame (F := Bits) m g

/-- The frame of the idealized program. -/
theorem frame_ideal : quiescent_NmsSortIdeal (hNmsSortIdeal := NmsSortIdeal.Gen.facts) := fun m g _ => frame (F := Ideal) m g

end Cert.Proof.Sort
-- ==== Proof.Order.lean ====
/-
  The order of the sorted scores: how many entries come before each, and that the stable sort puts each entry there.
-/
module

public import Idealize.ShloMosaic.Lib.SortFacts
public import Mathlib.Data.Fintype.Card
public import Mathlib.Order.Interval.Finset.Fin

@[expose] public section

namespace Cert.Proof.Sort

open Idealize.ShloMosaic

variable {n : ℕ} {α : Type} [LinearOrder α] (s : Fin n → α)

/-- Entry `j` comes before entry `i` in the descending order: it is larger, or it is equal and stands earlier. -/
def Ahead (j i : Fin n) : Prop := s i < s j ∨ (s j = s i ∧ j < i)

instance : DecidableRel (Ahead s) := fun j i => inferInstanceAs (Decidable (s i < s j ∨ (s j = s i ∧ j < i)))

theorem Ahead.trans {a b c : Fin n} (h : Ahead s a b) (h' : Ahead s b c) : Ahead s a c := by
  rcases h with h | ⟨h, k⟩ <;> rcases h' with h' | ⟨h', k'⟩
  · exact .inl (h'.trans h)
  · exact .inl (h' ▸ h)
  · exact .inl (h.symm ▸ h')
  · exact .inr ⟨h.trans h', k.trans k'⟩

theorem Ahead.irrefl (a : Fin n) : ¬ Ahead s a a := by
  rintro (h | ⟨-, h⟩) <;> exact lt_irrefl _ h

/-- The number of entries before entry `i`. -/
def rank (i : Fin n) : ℕ := (Finset.univ.filter fun j => Ahead s j i).card

/-- Inserting an entry that stands earlier than all of a list in order keeps the list in order. -/
theorem pairwise_insert (a : Fin n) (l : List (Fin n)) (ha : ∀ b ∈ l, a < b) (hl : l.Pairwise (Ahead s)) :
    (insertBefore (fun k k' => decide (s k' < s k)) a l).Pairwise (Ahead s) := by
  induction l with
  | nil => simp [insertBefore]
  | cons b l ih =>
    rw [List.pairwise_cons] at hl
    unfold insertBefore
    split
    · rename_i h
      rw [decide_eq_true_eq] at h
      refine List.pairwise_cons.mpr ⟨fun c hc => ?_, ih (fun c hc => ha c (List.mem_cons_of_mem _ hc)) hl.2⟩
      rcases List.mem_cons.mp ((perm_insertBefore _ a l).mem_iff.mp hc) with rfl | hc
      · exact .inl h
      · exact hl.1 c hc
    · rename_i h
      rw [decide_eq_true_eq, not_lt] at h
      have hab : Ahead s a b := (lt_or_eq_of_le h).imp id fun e => ⟨e.symm, ha b List.mem_cons_self⟩
      refine List.pairwise_cons.mpr ⟨fun c hc => ?_, List.pairwise_cons.mpr hl⟩
      rcases List.mem_cons.mp hc with rfl | hc
      · exact hab
      · exact hab.trans s (hl.1 c hc)

theorem pairwise_sort (l : List (Fin n)) (hl : l.Pairwise (· < ·)) :
    (stableSort (fun k k' => decide (s k' < s k)) l).Pairwise (Ahead s) := by
  induction l with
  | nil => simp [stableSort]
  | cons a l ih =>
    rw [List.pairwise_cons] at hl
    exact pairwise_insert s a _ (fun b hb => hl.1 b ((perm_stableSort _ l).mem_iff.mp hb)) (ih hl.2)

/-- The position whose entry the descending stable sort puts at `k`. -/
def sorted (k : Fin n) : Fin n := sortedFrom (fun k k' => decide (s k' < s k)) k

theorem sorted_bijective : Function.Bijective (sorted s) :=
  ⟨sortedFrom_injective _, sortedFrom_surjective _⟩

theorem ahead_of_lt {a b : Fin n} (h : a < b) : Ahead s (sorted s a) (sorted s b) :=
  List.pairwise_iff_get.mp (pairwise_sort s (List.finRange n) (List.pairwise_lt_finRange n)) _ _ h

theorem ahead_sorted (a b : Fin n) : Ahead s (sorted s a) (sorted s b) ↔ a < b := by
  refine ⟨fun h => ?_, ahead_of_lt s⟩
  rcases lt_trichotomy a b with h' | rfl | h'
  · exact h'
  · exact absurd h (Ahead.irrefl s _)
  · exact absurd (h.trans s (ahead_of_lt s h')) (Ahead.irrefl s _)

/-- As many entries come before the one the sort puts at `r` as there are places before `r`. -/
theorem rank_sorted (r : Fin n) : rank s (sorted s r) = r := by
  have : (Finset.univ.filter fun j => Ahead s j (sorted s r)) = (Finset.univ.filter fun a : Fin n => a < r).map ⟨sorted s, (sorted_bijective s).1⟩ := by
    ext j
    obtain ⟨a, rfl⟩ := (sorted_bijective s).2 j
    simp [ahead_sorted, (sorted_bijective s).1.eq_iff]
  unfold rank
  rw [this, Finset.card_map, show (Finset.univ.filter fun a : Fin n => a < r) = Finset.Iio r by ext; simp, Fin.card_Iio]

theorem rank_eq_iff (i r : Fin n) : rank s i = r ↔ i = sorted s r := by
  obtain ⟨a, rfl⟩ := (sorted_bijective s).2 i
  rw [rank_sorted, (sorted_bijective s).1.eq_iff, Fin.val_inj]

theorem rank_lt (i : Fin n) : rank s i < n := by
  obtain ⟨a, rfl⟩ := (sorted_bijective s).2 i
  rw [rank_sorted]; exact a.2

/-- The sorted entries descend. -/
theorem sorted_anti {a b : Fin n} (h : a ≤ b) : s (sorted s b) ≤ s (sorted s a) := by
  rcases h.eq_or_lt with rfl | h
  · exact le_rfl
  · rcases ahead_of_lt s h with h | h
    · exact h.le
    · exact h.1.ge

end Cert.Proof.Sort
-- ==== Proof.SortValues.lean ====
/-
  What the kernel's one-hot sums are on the extended reals: the entries of the inputs in the sorted order, along a row and
  along a column.
-/
module

public import proofs.«01_k».proof.Proof.Gen.NmsSortIdeal.Skeleton
public import proofs.«01_k».proof.Proof.Order
public import Idealize.ShloMosaic.Lib.Tactic
public import Idealize.ShloMosaic.Lib.Pointwise
public import Idealize.ShloMosaic.Lib.IndicatorCount
public import Idealize.ShloMosaic.PureOps.Ideal.Laws

@[expose] public section

noncomputable section

namespace Cert.Proof.Sort

open Cert.NmsSortIdeal Cert.NmsSortIdeal.Gen

open Idealize.ShloMosaic
open Idealize.ShloMosaic.TcCoe Idealize.ShloMosaic.Tactic

/-! ## Words -/

theorem toInt_small {a : ℕ} (ha : a < 2 ^ 31) : (BitVec.ofNat 32 a).toInt = a := by
  have h : (BitVec.ofNat 32 a).toNat = a := by rw [BitVec.toNat_ofNat, Nat.mod_eq_of_lt (by omega)]
  rw [BitVec.toInt_eq_toNat_of_lt (by omega), h]

/-- The signed comparison of two small numbers' words. -/
theorem slt_word {a b : ℕ} (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  rw [BitVec.slt, toInt_small ha, toInt_small hb]
  norm_cast

/-- The equality of two small numbers' words. -/
theorem eq_word {a b : ℕ} (ha : a < 2 ^ 32) (hb : b < 2 ^ 32) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_eq]
  refine ⟨fun h => ?_, fun h => h ▸ rfl⟩
  have := congrArg BitVec.toNat h
  rwa [BitVec.toNat_ofNat, BitVec.toNat_ofNat, Nat.mod_eq_of_lt ha, Nat.mod_eq_of_lt hb] at this

theorem ofBool_eq_one (b : Bool) : BitVec.ofBool b = 1#1 ↔ b = true := by cases b <;> decide

theorem or_and_ofBool (a b c : Bool) :
    IntOp.ori (BitVec.ofBool a) (IntOp.andi (BitVec.ofBool b) (BitVec.ofBool c)) = BitVec.ofBool (a || (b && c)) := by
  revert a b c; decide

theorem setWidth_ofBool (b : Bool) : (BitVec.ofBool b).setWidth 32 = if b then 1#32 else 0#32 := by cases b <;> decide

theorem sitofp_ofBool (b : Bool) : (FloatOps.sitofp FTy.f32 ((BitVec.ofBool b).setWidth 32) : Ideal .f32) = if b then 1 else 0 := by
  show ((((BitVec.ofBool b).setWidth 32).toInt : ℝ) : EReal) = _
  cases b
  · rw [show ((BitVec.ofBool false).setWidth 32).toInt = 0 from by decide]; simp
  · rw [show ((BitVec.ofBool true).setWidth 32).toInt = 1 from by decide]; simp

/-- A sum of words with one term that is not zero. -/
theorem fold_addi_single {ι : Type} [Fintype ι] [DecidableEq ι] (f : ι → BitVec 32) (a : ι) (h : ∀ i, i ≠ a → f i = 0#32) :
    Finset.univ.fold IntOp.addi (0#32) f = f a := by
  have : ∀ S : Finset ι, S.fold IntOp.addi (0#32) f = if a ∈ S then f a else 0#32 := fun S => by
    induction S using Finset.induction_on with
    | empty => rfl
    | insert b S hb ih =>
      rw [Finset.fold_insert hb, ih]
      show f b + _ = _
      by_cases hab : b = a
      · subst hab; simp [hb]
      · rw [h b hab]; simp [Ne.symm hab]
  rw [this, if_pos (Finset.mem_univ a)]

/-! ## The one-hot matrices -/

section
variable (s : Fin 512 → EReal) (v2 : Vec Ideal S512x1 .f32) (v4 : Vec Ideal S1x512 .f32)
  (h2 : ∀ i : Fin 512, v2 (ix2 i 0) = s i) (h4 : ∀ i : Fin 512, v4 (ix2 0 i) = s i)
include h2 h4

/-- The word of the rank of entry `i`. -/
theorem rank_word (i : Fin 512) (p : Fin 512 → BitVec 1) (hp : ∀ j, p j = BitVec.ofBool (decide (Ahead s j i))) :
    Finset.univ.fold IntOp.addi (0#32) (fun j => (p j).setWidth 32) = BitVec.ofNat 32 (rank s i) := by
  rw [IndicatorCount.fold_addi_setWidth_eq_card]
  simp only [hp, ofBool_eq_one, decide_eq_true_eq]
  rfl

/-- Row `r` of the first matrix marks the entry the sort puts at `r`. -/
theorem onehot_row (r i : Fin 512) : k0_pay30 v2 v4 (ix2 r i) = BitVec.ofBool (decide (i = sorted s r)) := by
  unfold k0_pay30 k0_pay28 k0_pay29
  pointwise
  rw [rank_word s v2 v4 h2 h4 i _ fun j => ?_, eq_word ((rank_lt s i).trans (by norm_num)) (r.2.trans (by norm_num))]
  · simp only [rank_eq_iff]
  · rw [slt_word (j.2.trans (by norm_num)) (i.2.trans (by norm_num)), or_and_ofBool]
    refine congrArg BitVec.ofBool (Bool.eq_iff_iff.mpr ?_)
    simp only [Bool.or_eq_true, Bool.and_eq_true, decide_eq_true_eq]
    refine (or_congr decide_eq_true_iff (and_congr_left' decide_eq_true_iff)).trans ?_
    rw [h2, h4]
    rfl

/-- Column `r` of the second matrix marks the entry the sort puts at `r`. -/
theorem onehot_col (r i : Fin 512) : k0_pay31 v2 v4 (ix2 i r) = BitVec.ofBool (decide (i = sorted s r)) := by
  unfold k0_pay31 k0_pay28 k0_pay29
  pointwise
  rw [rank_word s v2 v4 h2 h4 i _ fun j => ?_, eq_word ((rank_lt s i).trans (by norm_num)) (r.2.trans (by norm_num))]
  · simp only [rank_eq_iff]
  · rw [slt_word (j.2.trans (by norm_num)) (i.2.trans (by norm_num)), or_and_ofBool]
    refine congrArg BitVec.ofBool (Bool.eq_iff_iff.mpr ?_)
    simp only [Bool.or_eq_true, Bool.and_eq_true, decide_eq_true_eq]
    refine (or_congr decide_eq_true_iff (and_congr_left' decide_eq_true_iff)).trans ?_
    rw [h2, h4]
    rfl

/-- The second matrix as numbers, summed against a column: the entry the sort puts at `r`. -/
theorem sum_onehot (x : Fin 512 → EReal) (r : Fin 512) :
    ∑ i : Fin 512, k0_pay32 v2 v4 (ix2 i r) * x i = x (sorted s r) := by
  rw [Finset.sum_eq_single (sorted s r)]
  · unfold k0_pay32
    pointwise
    rw [onehot_col s v2 v4 h2 h4, sitofp_ofBool]
    simp
  · intro i _ hi
    unfold k0_pay32
    pointwise
    rw [onehot_col s v2 v4 h2 h4, sitofp_ofBool]
    simp [hi]
  · exact fun h => absurd (Finset.mem_univ _) h

/-- The first matrix as words, summed against a row: the entry the sort puts at `r`. -/
theorem label_col (v92 : IVec S1x512 32) (r : Fin 512) :
    k0_pay44 (F := Ideal) (k0_pay30 v2 v4) v92 (ix2 r 0) = v92 (ix2 0 (sorted s r)) := by
  unfold k0_pay44
  pointwise
  rw [fold_addi_single _ (sorted s r)]
  · rw [onehot_row s v2 v4 h2 h4, setWidth_ofBool]
    simp [IntOp.muli]
  · intro i hi
    rw [onehot_row s v2 v4 h2 h4, setWidth_ofBool]
    simp [IntOp.muli, hi]

theorem x1_row (v : Vec Ideal S512x1 .f32) (r : Fin 512) : k0_pay34 v2 v4 v (ix2 0 r) = v (ix2 (sorted s r) 0) := by
  rw [← sum_onehot s v2 v4 h2 h4 (fun i => v (ix2 i 0)) r]
  unfold k0_pay34
  pointwise

theorem y1_row (v : Vec Ideal S512x1 .f32) (r : Fin 512) : k0_pay35 v2 v4 v (ix2 0 r) = v (ix2 (sorted s r) 0) := by
  rw [← sum_onehot s v2 v4 h2 h4 (fun i => v (ix2 i 0)) r]
  unfold k0_pay35
  pointwise

theorem x2_row (v : Vec Ideal S512x1 .f32) (r : Fin 512) : k0_pay36 (k0_pay32 v2 v4) v (ix2 0 r) = v (ix2 (sorted s r) 0) := by
  rw [← sum_onehot s v2 v4 h2 h4 (fun i => v (ix2 i 0)) r]
  unfold k0_pay36
  pointwise

theorem y2_row (v : Vec Ideal S512x1 .f32) (r : Fin 512) : k0_pay37 (k0_pay32 v2 v4) v (ix2 0 r) = v (ix2 (sorted s r) 0) := by
  rw [← sum_onehot s v2 v4 h2 h4 (fun i => v (ix2 i 0)) r]
  unfold k0_pay37
  pointwise

theorem score_row (r : Fin 512) : k0_pay42 (k0_pay28 v2) (k0_pay32 v2 v4) (ix2 0 r) = s (sorted s r) := by
  rw [← sum_onehot s v2 v4 h2 h4 s r]
  unfold k0_pay42 k0_pay28
  pointwise
  simp only [h2]

end

/-! ## Rows as columns -/

/-- The sum over a row of what stands on the diagonal. -/
theorem sum_diag (x : Fin 512 → EReal) (r : Fin 512) :
    (∑ i : Fin 512, Scalar.select (k0_pay33 (ix2 r i)) (x i) (0 : EReal)) = x r := by
  rw [Finset.sum_eq_single r]
  · unfold k0_pay33
    pointwise
  · intro i _ hi
    unfold k0_pay33
    pointwise
    rw [eq_word (r.2.trans (by norm_num)) (i.2.trans (by norm_num)), decide_eq_false (fun h => hi (Fin.ext h.symm))]
    rfl
  · exact fun h => absurd (Finset.mem_univ _) h

theorem x1_col (v : FVec Ideal S1x512 .f32) (r : Fin 512) : k0_pay38 k0_pay33 v (ix2 r 0) = v (ix2 0 r) := by
  rw [← sum_diag (fun i => v (ix2 0 i)) r]
  unfold k0_pay38
  pointwise

theorem y1_col (v : FVec Ideal S1x512 .f32) (r : Fin 512) : k0_pay39 k0_pay33 v (ix2 r 0) = v (ix2 0 r) := by
  rw [← sum_diag (fun i => v (ix2 0 i)) r]
  unfold k0_pay39
  pointwise

theorem x2_col (e : FVec Ideal S512x512 .f32) (v : Vec Ideal S512x1 .f32) (r : Fin 512) :
    k0_pay40 e k0_pay33 v (ix2 r 0) = k0_pay36 e v (ix2 0 r) := by
  rw [← sum_diag (fun i => k0_pay36 e v (ix2 0 i)) r]
  unfold k0_pay40
  pointwise

theorem y2_col (e : FVec Ideal S512x512 .f32) (v : Vec Ideal S512x1 .f32) (r : Fin 512) :
    k0_pay41 e k0_pay33 v (ix2 r 0) = k0_pay37 e v (ix2 0 r) := by
  rw [← sum_diag (fun i => k0_pay37 e v (ix2 0 i)) r]
  unfold k0_pay41
  pointwise

theorem score_col (v : FVec Ideal S512x1 .f32) (e : FVec Ideal S512x512 .f32) (r : Fin 512) :
    k0_pay43 v e k0_pay33 (ix2 r 0) = k0_pay42 v e (ix2 0 r) := by
  rw [← sum_diag (fun i => k0_pay42 v e (ix2 0 i)) r]
  unfold k0_pay43
  pointwise

end Cert.Proof.Sort
-- ==== Proof.SortBits.lean ====
/-
  Eight flags in one word: the word a weighted sum packs them into, the step that takes out what a kept flag suppresses, and the
  flags that are left after the seven steps.
-/
module

public import proofs.«01_k».proof.Proof.SortValues

@[expose] public section

namespace Cert.Proof.Sort

open Idealize.ShloMosaic

/-- A flag as a word. -/
abbrev flag (b : Bool) : BitVec 32 := (BitVec.ofBool b).setWidth 32

theorem muli_flag : ∀ a b : Bool, IntOp.muli (flag a) (flag b) = flag (a && b) := by decide
theorem maxsi_flag : ∀ a b : Bool, IntOp.maxsi (flag a) (flag b) = flag (a || b) := by decide
theorem flag_not : ∀ a b : Bool, IntOp.muli (flag a) (IntOp.subi 1#32 (flag b)) = flag (a && !b) := by decide
theorem ne_flag : ∀ a : Bool, IntOp.cmpi .ne (flag a) 0#32 = BitVec.ofBool a := by decide

/-- The flags a sum packs, read bit by bit. -/
theorem pack_bit : ∀ b : Fin 8 → Bool, ∀ l : Fin 8,
    (Finset.univ.fold IntOp.addi (0#32) fun x : Fin 8 =>
      IntOp.muli (flag (b x)) (IntOp.shli .vector 1#32 (BitVec.ofNat 32 x))).getLsbD l = b l := by
  decide +kernel

/-- A sum over the lanes of the one row is the sum over the lanes. -/
theorem fold_one_row (f : Fin 8 → BitVec 32) :
    (Finset.univ.fold IntOp.addi (0#32) fun x : Fin 1 × Fin 8 => f x.2) = Finset.univ.fold IntOp.addi (0#32) f := by
  have h : (Finset.univ : Finset (Fin 1 × Fin 8)) = (Finset.univ : Finset (Fin 8)).map ⟨fun x => (0, x), fun a b h => (Prod.mk.inj h).2⟩ := by
    decide
  rw [h, Finset.fold_map]
  rfl

/-- Bit `u` of a word, as a word. -/
theorem bit_word (K : BitVec 32) (u : Fin 8) :
    (K >>> (BitVec.ofNat 32 u)) &&& 1#32 = flag (K.getLsbD u) := by
  have hu : (BitVec.ofNat 32 u.val).toNat = u := by
    rw [BitVec.toNat_ofNat, Nat.mod_eq_of_lt (u.2.trans (by norm_num))]
  apply BitVec.eq_of_getLsbD_eq
  intro i hi
  rw [BitVec.getLsbD_and, BitVec.ushiftRight_eq', hu, BitVec.getLsbD_ushiftRight, BitVec.getLsbD_setWidth, BitVec.getLsbD_ofBool]
  rcases Nat.eq_zero_or_pos i with rfl | h0
  · simp
  · simp [h0.ne']

theorem shift_and_vector (K : BitVec 32) (u : Fin 8) :
    IntOp.andi (IntOp.shrui .vector K (BitVec.ofNat 32 u)) 1#32 = flag (K.getLsbD u) := by
  rw [← bit_word]
  unfold IntOp.shrui
  rw [if_pos (by rw [BitVec.toNat_ofNat, Nat.mod_eq_of_lt (u.2.trans (by norm_num))]; exact u.2.trans (by norm_num))]
  rfl

theorem shift_and_scalar (K : BitVec 32) (u : Fin 8) :
    Scalar.andi (Scalar.shrui K (BitVec.ofNat 32 u)) 1#32 = flag (K.getLsbD u) := by
  rw [← bit_word]
  show IntOp.andi (IntOp.shrui .scalar K _) 1#32 = _
  unfold IntOp.shrui
  rw [if_pos (by rw [BitVec.toNat_ofNat, Nat.mod_eq_of_lt (u.2.trans (by norm_num))]; exact u.2.trans (by norm_num))]
  rfl

/-- The step for flag `u`: where flag `u` of `K` is set, the flags after it that `A` marks are taken out. -/
def kill (u : ℕ) (K A : BitVec 32) : BitVec 32 :=
  Scalar.andi K (Scalar.xori (Scalar.andi (Scalar.muli A (Scalar.andi (Scalar.shrui K (BitVec.ofNat 32 u)) 1#32))
    (BitVec.ofNat 32 (2 ^ 32 - 2 ^ (u + 1)))) 4294967295#32)

theorem mask_bit : ∀ u l : Fin 8, (BitVec.ofNat 32 (2 ^ 32 - 2 ^ (u.val + 1))).getLsbD l = decide (u < l) := by decide

theorem kill_bit (u l : Fin 8) (K A : BitVec 32) :
    (kill u K A).getLsbD l = true ↔ K.getLsbD l = true ∧ ¬ (A.getLsbD l = true ∧ K.getLsbD u = true ∧ u < l) := by
  have hl : l.val < 32 := l.2.trans (by norm_num)
  have hm : (A * flag (K.getLsbD u)).getLsbD l = (A.getLsbD l && K.getLsbD u) := by
    cases K.getLsbD u
    · rw [show flag false = 0#32 from rfl, BitVec.mul_zero]; simp
    · rw [show flag true = 1#32 from rfl, BitVec.mul_one]; simp
  unfold kill
  rw [shift_and_scalar]
  show (K &&& (((A * flag (K.getLsbD u)) &&& _) ^^^ 4294967295#32)).getLsbD l = true ↔ _
  rw [BitVec.getLsbD_and, BitVec.getLsbD_xor, BitVec.getLsbD_and, hm, mask_bit,
    show (4294967295#32 : BitVec 32).getLsbD l = true from by clear hl hm; revert l; decide]
  cases K.getLsbD l <;> cases A.getLsbD l <;> cases K.getLsbD u <;> simp

/-- The word after `u` of the steps. -/
def killed (K : BitVec 32) (A : Fin 8 → BitVec 32) : ℕ → BitVec 32
  | 0 => K
  | u + 1 => kill u (killed K A u) (A (Fin.ofNat 8 u))

/-- A flag is left after `u` steps when none of the first `u` flags, as it stood at its own step, suppresses it. -/
theorem killed_bit (K : BitVec 32) (A : Fin 8 → BitVec 32) (l : Fin 8) : ∀ u ≤ 8,
    ((killed K A u).getLsbD l = true ↔ K.getLsbD l = true ∧
      ∀ j : Fin 8, j.val < u → j < l → ¬ ((A j).getLsbD l = true ∧ (killed K A j).getLsbD j = true))
  | 0, _ => by simp [killed]
  | u + 1, hu => by
    have e : (Fin.ofNat 8 u) = ⟨u, hu⟩ := Fin.ext (Nat.mod_eq_of_lt hu)
    rw [killed, e]
    refine (kill_bit ⟨u, hu⟩ l _ _).trans ?_
    rw [killed_bit K A l u (by omega)]
    constructor
    · rintro ⟨⟨h0, h⟩, h'⟩
      refine ⟨h0, fun j hj hl ⟨ha, hk⟩ => ?_⟩
      rcases Nat.lt_succ_iff_lt_or_eq.mp hj with hj | hj
      · exact h j hj hl ⟨ha, hk⟩
      · obtain rfl : j = ⟨u, hu⟩ := Fin.ext hj
        exact h' ⟨ha, hk, hl⟩
    · rintro ⟨h0, h⟩
      refine ⟨⟨h0, fun j hj => h j (by omega)⟩, fun ⟨ha, hk, hl⟩ => h ⟨u, hu⟩ (Nat.lt_succ_self u) hl ⟨ha, hk⟩⟩

/-- After the seven steps a flag is left when no flag left before it suppresses it. -/
theorem killed_final (K : BitVec 32) (A : Fin 8 → BitVec 32) (l : Fin 8) :
    (killed K A 7).getLsbD l = true ↔ K.getLsbD l = true ∧
      ∀ j < l, ¬ ((A j).getLsbD l = true ∧ (killed K A 7).getLsbD j = true) := by
  have own : ∀ j : Fin 8, ((killed K A 7).getLsbD j = true ↔ (killed K A j).getLsbD j = true) := fun j => by
    rw [killed_bit K A j 7 (by omega), killed_bit K A j j j.2.le]
    refine and_congr_right fun _ => forall_congr' fun i => ⟨fun h hi => h (by omega), fun h hi hl => h hl hl⟩
  rw [killed_bit K A l 7 (by omega)]
  refine and_congr_right fun _ => forall_congr' fun j => ?_
  rw [own j]
  exact ⟨fun h hl => h (by omega) hl, fun h _ hl => h hl⟩

end Cert.Proof.Sort
-- ==== Proof.Greedy.lean ====
/-
  Greedy suppression: an entry is kept when it is valid and no kept entry before it suppresses it.
-/
module

public import Mathlib.Order.Fin.Basic

@[expose] public section

namespace Cert.Proof.Sort

/-- Entry `i` is kept: it is valid and no kept entry before it suppresses it. -/
def kept {n : ℕ} (v : Fin n → Prop) (A : Fin n → Fin n → Prop) (i : Fin n) : Prop :=
  v i ∧ ∀ j, (h : j < i) → kept v A j → ¬ A j i
termination_by i.val

theorem kept_iff {n : ℕ} (v : Fin n → Prop) (A : Fin n → Fin n → Prop) (i : Fin n) :
    kept v A i ↔ v i ∧ ∀ j < i, kept v A j → ¬ A j i := by
  rw [kept]

end Cert.Proof.Sort
-- ==== Proof.SortChunk.lean ====
/-
  One chunk of eight of the suppression loop: the flags it keeps are the greedy ones, and what the eight suppress is added to the
  suppressed row.
-/
module

public import proofs.«01_k».proof.Proof.SortBits
public import proofs.«01_k».proof.Proof.Greedy

@[expose] public section

noncomputable section

namespace Cert.Proof.Sort

open Cert.NmsSortIdeal Cert.NmsSortIdeal.Gen

open Idealize.ShloMosaic
open Idealize.ShloMosaic.TcCoe Idealize.ShloMosaic.Tactic
open scoped Classical

/-- Place `l` of chunk `t`. -/
def place (t : ℕ) (l : Fin 8) : Fin 512 := Fin.ofNat 512 (8 * t + l)

theorem place_val {t : ℕ} (ht : t < 64) (l : Fin 8) : (place t l).val = 8 * t + l := Nat.mod_eq_of_lt (by omega)

theorem place_lt {t : ℕ} (ht : t < 64) (j l : Fin 8) : place t j < place t l ↔ j < l := by
  rw [Fin.lt_def, place_val ht, place_val ht, Fin.lt_def]; omega

/-- The first place of chunk `t`, as the loop computes it. -/
theorem chunk_word (t : ℕ) : Scalar.muli (Scf.iv 0#32 1#32 t) 8#32 = BitVec.ofNat 32 (8 * t) := by
  show (0#32 + BitVec.ofNat 32 t * 1#32) * 8#32 = _
  apply BitVec.eq_of_toNat_eq
  simp [Nat.mul_comm]

/-- The lane the rotation by a chunk's first place brings to `x`. -/
theorem rot_back {t : ℕ} (ht : t < 64) (x : Fin 8) :
    (x.val + 512 - (Scalar.subi (0#32) (Scalar.muli (Scf.iv 0#32 1#32 t) 8#32)).toNat % 512) % 512 = (place t x).val := by
  rw [chunk_word, place_val ht]
  show (x.val + 512 - (0#32 - BitVec.ofNat 32 (8 * t)).toNat % 512) % 512 = _
  rw [BitVec.toNat_sub, BitVec.toNat_ofNat, BitVec.toNat_ofNat]
  omega

section
variable {n : BitVec 32} {N : ℕ} (hn : n = BitVec.ofNat 32 N) (hN : N ≤ 512) (t : Fin (k0_t1_loop n).trips) (ht : t.val < 64)
  (A : Fin 512 → Fin 512 → Prop)

/-- The greedy flags of the first `N` places. -/
abbrev greedy (N : ℕ) (A : Fin 512 → Fin 512 → Prop) : Fin 512 → Prop := kept (fun i => i.val < N) A

/-- What the places before chunk `t` suppress. -/
def blocked (N : ℕ) (A : Fin 512 → Fin 512 → Prop) (t : ℕ) (i : Fin 512) : Prop :=
  ∃ j : Fin 512, j.val < 8 * t ∧ greedy N A j ∧ A j i

variable (ck : Vec Ideal S8x512 .f32)
  (hck : ∀ (u : Fin 8) (i : Fin 512), Ideal.ofBits .f32 0x3F000000#32 < ck (ix2 u i) ↔ A (place t u) i)

include hck in
/-- The chunk's rows of the thresholded matrix, as flags. -/
theorem chunk_flag (u : Fin 8) (i : Fin 512) : k0_pay2 ck (ix2 u i) = flag (decide (A (place t u) i)) := by
  unfold k0_pay2
  pointwise
  exact congrArg flag (decide_eq_decide.mpr (hck u i))

include ht hck in
/-- Row `u` of the chunk's own eight by eight block, packed. -/
theorem row_bit (u l : Fin 8) : (k0_pay3 n k0_pay52 0#32 1#32 t ck (ix2 u 0)).getLsbD l = decide (A (place t u) (place t l)) := by
  rw [← pack_bit (fun l => decide (A (place t u) (place t l))) l]
  have hi : ∀ (x : Fin 8) (k : ℕ) (hk : k < 512), k = (place t x).val →
      k0_pay2 ck (ix2 u ⟨k, hk⟩) = flag (decide (A (place t u) (place t x))) := by
    rintro x k hk rfl; exact chunk_flag t A ck hck u _
  unfold k0_pay3 k0_pay52
  pointwise
  refine congrArg (fun f => (Finset.univ.fold IntOp.addi (0#32) f).getLsbD l) (funext fun x => congrArg (IntOp.muli · _) ?_)
  exact hi x _ _ (rot_back ht x)

variable (B : Vec Ideal S1x512 .i32) (hB : ∀ i : Fin 512, B (ix2 0 i) = flag (decide (blocked N A t i)))

include hn hN ht hB in
/-- The summand at lane `x` of the packed start flags. -/
theorem start_lane (x : Fin 8) (k : ℕ) (hk : k < 512) (h : k = (place t x).val) :
    IntOp.muli ((IntOp.cmpi .slt (IntOp.addi (Scalar.muli (Scf.iv 0#32 1#32 t) 8#32) (BitVec.ofNat 32 x)) n).setWidth 32)
        (IntOp.subi 1#32 (B (ix2 0 ⟨k, hk⟩)))
      = flag (decide ((place t x).val < N ∧ ¬ blocked N A t (place t x))) := by
  subst h
  have hb : B (ix2 0 ⟨(place t x).val, hk⟩) = flag (decide (blocked N A t (place t x))) := hB _
  have hw : IntOp.addi (BitVec.ofNat 32 (8 * t.val)) (BitVec.ofNat 32 x.val) = BitVec.ofNat 32 (place t x).val := by
    rw [place_val ht]
    exact (BitVec.ofNat_add _ _).symm
  have hs : ∀ k < 512, IntOp.cmpi .slt (BitVec.ofNat 32 k) n = BitVec.ofBool (decide (k < N)) := fun k hk => by
    rw [hn]; exact slt_word (by omega) (by omega)
  rw [hb, chunk_word, hw, hs _ hk, flag_not, Bool.decide_and, decide_not]

include hn hN ht hB in
/-- The flags the chunk starts with: places among the first `N` that nothing before the chunk suppresses. -/
theorem start_bit (l : Fin 8) :
    (extractAt ![0, 0, 0] (k0_pay4 (F := Ideal) n (iota .tc S1x8 32 [1] iota_S1x8_d1_w32) k0_pay52 0#32 1#32 t B) inpos_S1x1x1_p0_0_0).getLsbD l
      = decide ((place t l).val < N ∧ ¬ blocked N A t (place t l)) := by
  rw [← pack_bit (fun l => decide ((place t l).val < N ∧ ¬ blocked N A t (place t l))) l, ← fold_one_row]
  unfold k0_pay4 k0_pay52
  pointwise
  refine congrArg (fun f => (Finset.univ.fold IntOp.addi (0#32) f).getLsbD l) (funext fun x => congrArg (IntOp.muli · _) ?_)
  exact start_lane hn hN t ht A B hB x.2 _ _ (rot_back ht x.2)

/-- The chunk's eight flags after the suppression steps. -/
def chunkKept : BitVec 32 :=
  killed (extractAt ![0, 0, 0] (k0_pay4 (F := Ideal) n (iota .tc S1x8 32 [1] iota_S1x8_d1_w32) k0_pay52 0#32 1#32 t B) inpos_S1x1x1_p0_0_0)
    (fun u => k0_pay3 n k0_pay52 0#32 1#32 t ck (ix2 u 0)) 7

include ht in
/-- A place of the chunk is kept when it is among the first `N`, nothing before the chunk suppresses it, and no kept place of the
chunk before it does. -/
theorem greedy_place (l : Fin 8) : greedy N A (place t l) ↔
    ((place t l).val < N ∧ ¬ blocked N A t (place t l)) ∧
      ∀ j : Fin 8, j < l → ¬ (A (place t j) (place t l) ∧ greedy N A (place t j)) := by
  unfold greedy blocked
  rw [kept_iff]
  constructor
  · rintro ⟨hv, h⟩
    refine ⟨⟨hv, fun ⟨j, hj, hk, ha⟩ => h j ?_ hk ha⟩, fun j hj ⟨ha, hk⟩ => h _ ((place_lt ht j l).mpr hj) hk ha⟩
    rw [Fin.lt_def, place_val ht]; omega
  · rintro ⟨⟨hv, hb⟩, h⟩
    refine ⟨hv, fun j hj hk ha => ?_⟩
    by_cases hj8 : j.val < 8 * t
    · exact hb ⟨j, hj8, hk, ha⟩
    · rw [Fin.lt_def, place_val ht] at hj
      have e : j = place t ⟨j.val - 8 * t, by omega⟩ := Fin.ext (by rw [place_val ht]; show j.val = 8 * t.val + (j.val - 8 * t.val); omega)
      rw [e] at ha hk
      exact h ⟨j.val - 8 * t, by omega⟩ (Fin.lt_def.mpr (by show j.val - 8 * t.val < l.val; omega)) ⟨ha, hk⟩

include hn hN ht hck hB in
/-- The flags the chunk ends with are the greedy ones. -/
theorem kept_bit (l : Fin 8) : (chunkKept t ck B).getLsbD l = decide (greedy N A (place t l)) := by
  rw [Bool.eq_iff_iff, decide_eq_true_iff]
  induction l using WellFoundedLT.induction with
  | _ l ih =>
    unfold chunkKept at ih ⊢
    rw [killed_final, start_bit hn hN t ht A B hB, decide_eq_true_iff, greedy_place t ht A l]
    refine and_congr_right fun _ => forall_congr' fun j => forall_congr' fun hj => not_congr ?_
    rw [ih j hj, row_bit t ht A ck hck, decide_eq_true_iff]

end

end Cert.Proof.Sort
-- ==== Proof.SortTrip.lean ====
/-
  One trip of the suppression loop: what it leaves in the suppressed row and in the row of keep flags.
-/
module

public import proofs.«01_k».proof.Proof.SortChunk
public import proofs.«01_k».proof.Proof.Gen.NmsSortIdeal.Loops

@[expose] public section

noncomputable section

namespace Cert.Proof.Sort

open Cert.NmsSortIdeal Cert.NmsSortIdeal.Gen

open Idealize.ShloMosaic
open Idealize.ShloMosaic.TcCoe Idealize.ShloMosaic.Tactic
open scoped Classical

section
variable (arg11 : Memref sig .tc .vmem S512x512 .f32) (arg12 : Memref sig .tc .vmem S1x512 .i32)
  {n : BitVec 32} (hk : k0_chk1 n) (X : BufTy.Contents (Elt Ideal) arg11.view.ty) (t : Fin (k0_t1_loop n).trips)
  (f : BufTy.Contents (Elt Ideal) arg12.view.ty)

/-- The eight rows of the overlap matrix a trip reads. -/
abbrev tripRows :=
  View.readAt (Elt Ideal) arg11.view (Rect.unit (s := S512x512) (k0_off1 n t) S8x512.size (hk.2.2.1 t)).toLoadRect X

/-- The suppressed row a trip reads. -/
abbrev tripRow :=
  View.readAt (Elt Ideal) arg12.view (Rect.unit ![0, 0] S1x512.size inb_S1x512_S1x512_0_0).toLoadRect f

/-- The lanes of a chunk. -/
abbrev lanes : IVec S1x8 32 := iota .tc S1x8 32 [1] iota_S1x8_d1_w32

/-- The packed flags after the seven steps of a trip. -/
theorem trip_word : trip_k0_t1.sl.v332 arg11 arg12 n hk lanes X t f = chunkKept t (tripRows arg11 hk X t) (tripRow arg12 f) := by
  have row : ∀ (u : Fin 8) (w : BitVec 32),
      w = trip_k0_t1.sl.r_1 arg11 n hk X t (ix2 u 0) → w = k0_pay3 n k0_pay52 0#32 1#32 t (tripRows arg11 hk X t) (ix2 u 0) :=
    fun _ _ h => h
  rw [show trip_k0_t1.sl.v332 arg11 arg12 n hk lanes X t f = kill 6 (trip_k0_t1.sl.v324 arg11 arg12 n hk lanes X t f) (trip_k0_t1.sl.v326 arg11 n hk X t) from rfl,
    show trip_k0_t1.sl.v324 arg11 arg12 n hk lanes X t f = kill 5 (trip_k0_t1.sl.v316 arg11 arg12 n hk lanes X t f) (trip_k0_t1.sl.v318 arg11 n hk X t) from rfl,
    show trip_k0_t1.sl.v316 arg11 arg12 n hk lanes X t f = kill 4 (trip_k0_t1.sl.v308 arg11 arg12 n hk lanes X t f) (trip_k0_t1.sl.v310 arg11 n hk X t) from rfl,
    show trip_k0_t1.sl.v308 arg11 arg12 n hk lanes X t f = kill 3 (trip_k0_t1.sl.v300 arg11 arg12 n hk lanes X t f) (trip_k0_t1.sl.v302 arg11 n hk X t) from rfl,
    show trip_k0_t1.sl.v300 arg11 arg12 n hk lanes X t f = kill 2 (trip_k0_t1.sl.v292 arg11 arg12 n hk lanes X t f) (trip_k0_t1.sl.v294 arg11 n hk X t) from rfl,
    show trip_k0_t1.sl.v292 arg11 arg12 n hk lanes X t f = kill 1 (trip_k0_t1.sl.v284 arg11 arg12 n hk lanes X t f) (trip_k0_t1.sl.v286 arg11 n hk X t) from rfl,
    show trip_k0_t1.sl.v284 arg11 arg12 n hk lanes X t f = kill 0 (trip_k0_t1.sl.v276 arg12 n lanes t f) (trip_k0_t1.sl.v278 arg11 n hk X t) from rfl,
    row 0 (trip_k0_t1.sl.v278 arg11 n hk X t) (by unfold trip_k0_t1.sl.v278 k0_pay5; pointwise; rfl),
    row 1 (trip_k0_t1.sl.v286 arg11 n hk X t) (by unfold trip_k0_t1.sl.v286 k0_pay6; pointwise; rfl),
    row 2 (trip_k0_t1.sl.v294 arg11 n hk X t) (by unfold trip_k0_t1.sl.v294 trip_k0_t1.sl.v293; pointwise),
    row 3 (trip_k0_t1.sl.v302 arg11 n hk X t) (by unfold trip_k0_t1.sl.v302 trip_k0_t1.sl.v301; pointwise),
    row 4 (trip_k0_t1.sl.v310 arg11 n hk X t) (by unfold trip_k0_t1.sl.v310 trip_k0_t1.sl.v309; pointwise),
    row 5 (trip_k0_t1.sl.v318 arg11 n hk X t) (by unfold trip_k0_t1.sl.v318 trip_k0_t1.sl.v317; pointwise),
    row 6 (trip_k0_t1.sl.v326 arg11 n hk X t) (by unfold trip_k0_t1.sl.v326 trip_k0_t1.sl.v325; pointwise)]
  rfl

/-- Whether one of eight holds, spelt out. -/
theorem any_eight (p : Fin 8 → Prop) : (∃ u, p u) ↔ p 0 ∨ p 1 ∨ p 2 ∨ p 3 ∨ p 4 ∨ p 5 ∨ p 6 ∨ p 7 := by
  constructor
  · rintro ⟨u, h⟩
    match u, h with
    | 0, h => simp [h]
    | 1, h => simp [h]
    | 2, h => simp [h]
    | 3, h => simp [h]
    | 4, h => simp [h]
    | 5, h => simp [h]
    | 6, h => simp [h]
    | 7, h => simp [h]
  · rintro (h | h | h | h | h | h | h | h) <;> exact ⟨_, h⟩

variable {N : ℕ} (hn : n = BitVec.ofNat 32 N) (hN : N ≤ 512) (ht : t.val < 64) (A : Fin 512 → Fin 512 → Prop)
  (hck : ∀ (u : Fin 8) (i : Fin 512), Ideal.ofBits .f32 0x3F000000#32 < tripRows arg11 hk X t (ix2 u i) ↔ A (place t u) i)
  (hB : ∀ i : Fin 512, tripRow arg12 f (ix2 0 i) = flag (decide (blocked N A t i)))

include ht in
/-- What is suppressed after a chunk: what was, and what the chunk's kept places suppress. -/
theorem blocked_succ (i : Fin 512) :
    blocked N A (t + 1) i ↔ blocked N A t i ∨ ∃ u : Fin 8, A (place t u) i ∧ greedy N A (place t u) := by
  unfold blocked
  constructor
  · rintro ⟨j, hj, hg, ha⟩
    by_cases h : j.val < 8 * t
    · exact Or.inl ⟨j, h, hg, ha⟩
    · have e : j = place t ⟨j.val - 8 * t, by omega⟩ := Fin.ext (by rw [place_val ht]; show j.val = 8 * t.val + (j.val - 8 * t.val); omega)
      rw [e] at ha hg
      exact Or.inr ⟨_, ha, hg⟩
  · rintro (⟨j, hj, hg, ha⟩ | ⟨u, ha, hg⟩)
    · exact ⟨j, by omega, hg, ha⟩
    · exact ⟨place t u, by rw [place_val ht]; omega, hg, ha⟩

include hn hN ht hck hB in
/-- The suppressed row after a trip. -/
theorem trip_row (i : Fin 512) :
    k0_pay54 (F := Ideal) (trip_k0_t1.sl.r arg11 n hk X t) (trip_k0_t1.sl.v332 arg11 arg12 n hk lanes X t f)
        (trip_k0_t1.sl.v370 arg11 arg12 n hk lanes X t f) (trip_k0_t1.sl.v371 arg11 n hk X t)
        (trip_k0_t1.sl.v372 arg11 arg12 n hk lanes X t f) 1#32 (tripRow arg12 f) (ix2 0 i)
      = flag (decide (blocked N A (t + 1) i)) := by
  have hr : ∀ u : Fin 8, trip_k0_t1.sl.r arg11 n hk X t (ix2 u i) = flag (decide (A (place t u) i)) := fun u =>
    chunk_flag t A (tripRows arg11 hk X t) hck u i
  have hs : ∀ u : Fin 8, Scalar.andi (Scalar.shrui (trip_k0_t1.sl.v332 arg11 arg12 n hk lanes X t f) (BitVec.ofNat 32 u)) 1#32
      = flag (decide (greedy N A (place t u))) := fun u => by
    rw [shift_and_scalar, trip_word, kept_bit hn hN t ht A _ hck _ hB]
  have one : ∀ u : Fin 8, IntOp.muli (trip_k0_t1.sl.r arg11 n hk X t (ix2 u i))
        (Scalar.andi (Scalar.shrui (trip_k0_t1.sl.v332 arg11 arg12 n hk lanes X t f) (BitVec.ofNat 32 u)) 1#32)
      = flag (decide (A (place t u) i ∧ greedy N A (place t u))) := fun u => by
    rw [hr, hs, muli_flag, Bool.decide_and]
  unfold k0_pay54
  unfold trip_k0_t1.sl.v372 trip_k0_t1.sl.v371 trip_k0_t1.sl.v370 trip_k0_t1.sl.v369 trip_k0_t1.sl.v368 trip_k0_t1.sl.v367 trip_k0_t1.sl.v366 trip_k0_t1.sl.v365 trip_k0_t1.sl.v364 trip_k0_t1.sl.v363 trip_k0_t1.sl.v362 trip_k0_t1.sl.v361 trip_k0_t1.sl.v360 trip_k0_t1.sl.v359 trip_k0_t1.sl.v358 trip_k0_t1.sl.v357 trip_k0_t1.sl.v356 trip_k0_t1.sl.v355 trip_k0_t1.sl.v354 trip_k0_t1.sl.v353 trip_k0_t1.sl.v352 trip_k0_t1.sl.v351 trip_k0_t1.sl.v350 trip_k0_t1.sl.v349 trip_k0_t1.sl.v348 trip_k0_t1.sl.v347 trip_k0_t1.sl.v346 trip_k0_t1.sl.v345 trip_k0_t1.sl.v344 trip_k0_t1.sl.v343 trip_k0_t1.sl.v342 trip_k0_t1.sl.v341 trip_k0_t1.sl.v340 trip_k0_t1.sl.v339 trip_k0_t1.sl.v338 trip_k0_t1.sl.v337
  pointwise
  refine (congrArg₂ IntOp.maxsi (hB i) (congrArg₂ IntOp.maxsi (congrArg₂ IntOp.maxsi (congrArg₂ IntOp.maxsi (congrArg₂ IntOp.maxsi
    (congrArg₂ IntOp.maxsi (congrArg₂ IntOp.maxsi (congrArg₂ IntOp.maxsi (one 0) (one 1)) (one 2)) (one 3)) (one 4)) (one 5)) (one 6)) (one 7))).trans ?_
  simp only [maxsi_flag]
  refine congrArg flag ?_
  rw [Bool.eq_iff_iff, decide_eq_true_iff, blocked_succ t ht A, any_eight]
  simp only [Bool.or_eq_true, decide_eq_true_iff, or_assoc]
end

end Cert.Proof.Sort
-- ==== Proof.SortLoop.lean ====
/-
  The suppression loop as a whole: the row of keep flags it leaves is the greedy one.
-/
module

public import proofs.«01_k».proof.Proof.SortTrip
public import proofs.«01_k».proof.Proof.SortCount
public import Idealize.ShloMosaic.Lib.VecWindow

@[expose] public section

noncomputable section

namespace Cert.Proof.Sort

open Cert.NmsSortIdeal Cert.NmsSortIdeal.Gen

open Idealize.ShloMosaic
open Idealize.ShloMosaic.TcCoe Idealize.ShloMosaic.Tactic
open scoped Classical

/-- The chunks cover the count, and there are at most 64. -/
theorem trips_spec : ∀ N : Fin 513, (k0_t1_loop (BitVec.ofNat 32 N)).trips ≤ 64 ∧ N.val ≤ 8 * (k0_t1_loop (BitVec.ofNat 32 N)).trips := by
  decide +kernel

/-- The loop over a last partial chunk makes no trip. -/
theorem rest_trips : ∀ N : Fin 513, (k0_t2_loop (BitVec.ofNat 32 N)).trips = 0 := by decide +kernel

/-- The flags of one chunk put over a row of flags. -/
theorem chunk_put (acc : IVec S1x512 32) (k8 : IVec S1x8 32) {t : ℕ} (ht : t < 64) (i : Fin 512) :
    k0_pay55 acc (Scalar.muli (Scf.iv 0#32 1#32 t) 8#32) k8 (ix2 0 i)
      = if h : 8 * t ≤ i.val ∧ i.val < 8 * t + 8 then k8 (ix2 0 ⟨i.val - 8 * t, by omega⟩) else acc (ix2 0 i) := by
  rw [chunk_word]
  unfold k0_pay55
  pointwise
  have hi := i.2
  have h1 : IntOp.cmpi .sge (BitVec.ofNat 32 i.val) (BitVec.ofNat 32 (8 * t)) = BitVec.ofBool (decide (8 * t ≤ i.val)) := by
    show BitVec.ofBool ((BitVec.ofNat 32 (8 * t)).sle (BitVec.ofNat 32 i.val)) = _
    rw [BitVec.sle, toInt_small (by omega), toInt_small (by omega)]
    norm_cast
  have h2 : IntOp.cmpi .slt (BitVec.ofNat 32 i.val) (Scalar.addi (BitVec.ofNat 32 (8 * t)) 8#32) = BitVec.ofBool (decide (i.val < 8 * t + 8)) := by
    rw [show Scalar.addi (BitVec.ofNat 32 (8 * t)) 8#32 = BitVec.ofNat 32 (8 * t + 8) from (BitVec.ofNat_add _ _).symm]
    exact slt_word (by omega) (by omega)
  rw [h1, h2]
  have hw : (BitVec.ofNat 32 (8 * t)).toNat = 8 * t := by rw [BitVec.toNat_ofNat, Nat.mod_eq_of_lt (by omega)]
  by_cases h : 8 * t ≤ i.val ∧ i.val < 8 * t + 8
  · have hb : IntOp.andi (BitVec.ofBool (decide (8 * t ≤ i.val))) (BitVec.ofBool (decide (i.val < 8 * t + 8))) = 1#1 := by
      rw [decide_eq_true h.1, decide_eq_true h.2]; rfl
    have hm : (i.val + 512 - (BitVec.ofNat 32 (8 * t)).toNat % 512) % 512 = i.val - 8 * t := by rw [hw]; omega
    have hl : (i.val + 512 - (BitVec.ofNat 32 (8 * t)).toNat % 512) % 512 < 8 := by rw [hm]; omega
    rw [hb, dif_pos h, dif_pos hl]
    refine (if_pos rfl).trans (congrArg k8 (congrArg (ix2 0) (Fin.ext hm)))
  · have hb : IntOp.andi (BitVec.ofBool (decide (8 * t ≤ i.val))) (BitVec.ofBool (decide (i.val < 8 * t + 8))) = 0#1 := by
      rcases not_and_or.mp h with h | h
      · rw [decide_eq_false h]; cases decide (i.val < 8 * t + 8) <;> rfl
      · rw [decide_eq_false h]; cases decide (8 * t ≤ i.val) <;> rfl
    rw [hb, dif_neg h]
    exact if_neg (by decide)

section
variable (𝒱 : Variants) (c : Dev nD) (bd : Option 𝒱.V)
  (arg0 : Memref sig .tc .vmem S512x4 .f32) (harg0 : arg0.IsWhole) (arg1 : Memref sig .tc .vmem S512x1 .f32) (harg1 : arg1.IsWhole)
  (arg2 : Memref sig .tc .vmem S1x512 .f32) (harg2 : arg2.IsWhole) (arg3 : Memref sig .tc .vmem S1x512 .i32) (harg3 : arg3.IsWhole)
  (arg4 : Memref sig .tc .vmem S512x4 .f32) (harg4 : arg4.IsWhole) (arg5 : Memref sig .tc .vmem S512x1 .i32) (harg5 : arg5.IsWhole)
  (arg6 : Memref sig .tc .vmem S512x1 .f32) (harg6 : arg6.IsWhole) (arg7 : Memref sig .tc .vmem S512x1 .i32) (harg7 : arg7.IsWhole)
  (arg8 : Memref sig .tc .vmem S512x1 .i32) (harg8 : arg8.IsWhole) (arg9 : Memref sig .tc .vmem S512x1 .i32) (harg9 : arg9.IsWhole)
  (arg10 : Memref sig .tc .vmem S512x1 .i32) (harg10 : arg10.IsWhole) (arg11 : Memref sig .tc .vmem S512x512 .f32)
  (harg11 : arg11.IsWhole) (arg12 : Memref sig .tc .vmem S1x512 .i32) (harg12 : arg12.IsWhole)
  (s v : FVec Ideal S1x512 .f32) {n : BitVec 32} (hk : k0_chk1 n) (X : BufTy.Contents (Elt Ideal) arg11.view.ty)
  (G : BufTy.Contents (Elt Ideal) arg12.view.ty) (init : IVec S1x512 32)

theorem tripR_eq (k : Fin (k0_t1_loop n).trips) (acc : IVec S1x512 32) (f : BufTy.Contents (Elt Ideal) arg12.view.ty) :
    tripR_k0_t1 𝒱 c bd arg0 harg0 arg1 harg1 arg2 harg2 arg3 harg3 arg4 harg4 arg5 harg5 arg6 harg6 arg7 harg7 arg8 harg8 arg9 harg9 arg10 harg10 arg11 harg11 arg12 harg12 s v n hk lanes X k acc f
      = k0_pay55 acc (Scalar.muli (Scf.iv 0#32 1#32 k) 8#32) (trip_k0_t1.sl.v336 arg11 arg12 n hk lanes X k f) := by
  unfold tripR_k0_t1 trip_k0_t1
  rfl

theorem tripL_eq (k : Fin (k0_t1_loop n).trips) (acc : IVec S1x512 32) (f : BufTy.Contents (Elt Ideal) arg12.view.ty) :
    tripL_k0_t1 𝒱 c bd arg0 harg0 arg1 harg1 arg2 harg2 arg3 harg3 arg4 harg4 arg5 harg5 arg6 harg6 arg7 harg7 arg8 harg8 arg9 harg9 arg10 harg10 arg11 harg11 arg12 harg12 s v n hk lanes X k acc f
      = [⟨Rect.unit ![0, 0] S1x512.size inb_S1x512_S1x512_0_0,
          k0_pay54 (F := Ideal) (trip_k0_t1.sl.r arg11 n hk X k) (trip_k0_t1.sl.v332 arg11 arg12 n hk lanes X k f)
            (trip_k0_t1.sl.v370 arg11 arg12 n hk lanes X k f) (trip_k0_t1.sl.v371 arg11 n hk X k)
            (trip_k0_t1.sl.v372 arg11 arg12 n hk lanes X k f) 1#32 (tripRow arg12 f)⟩] := by
  unfold tripL_k0_t1 trip_k0_t1
  rfl

variable {N : ℕ} (hn : n = BitVec.ofNat 32 N) (hN : N ≤ 512) (A : Fin 512 → Fin 512 → Prop)
  (hX : ∀ j i : Fin 512, Ideal.ofBits .f32 0x3F000000#32 < arg11.view.read (Elt Ideal) X (ix2 j i) ↔ A j i)

include hX in
/-- The rows a trip reads are the chunk's rows of the overlap matrix. -/
theorem tripRows_iff (k : Fin (k0_t1_loop n).trips) (hk64 : k.val < 64) (u : Fin 8) (i : Fin 512) :
    Ideal.ofBits .f32 0x3F000000#32 < tripRows arg11 hk X k (ix2 u i) ↔ A (place k u) i := by
  have ho : k0_off1 n k = ![8 * k.val, 0] := by
    have h : k0_off1 n k = ![(Scalar.muli (Scf.iv 0#32 1#32 k) 8#32).toNat, 0] := rfl
    rw [h, chunk_word, BitVec.toNat_ofNat, Nat.mod_eq_of_lt (by omega)]
  rw [← hX]
  unfold tripRows
  rw [View.readAt_unit _ _ _ ho (by intro a; match a with | 0 => show 8 * k.val + 8 ≤ 512; omega | 1 => show 0 + 512 ≤ 512; omega)]
  refine iff_of_eq (congrArg _ (congrArg (arg11.view.read (Elt Ideal) X) (funext fun a => Fin.ext ?_)))
  match a with
  | 0 => show 8 * k.val + 1 * u.val = (place k u).val; rw [place_val hk64]; omega
  | 1 => show 0 + 1 * i.val = i.val; omega

variable (hG : ∀ i : Fin 512, arg12.view.read (Elt Ideal) G (ix2 0 i) = flag false)
  (hinit : ∀ i : Fin 512, init (ix2 0 i) = flag (decide (i.val < N)))

include hn hN hX hG hinit in
/-- Before trip `k`: the suppressed row, and the keep flags of the places before the trip's chunk. -/
theorem loop_inv : ∀ k : ℕ, k ≤ (k0_t1_loop n).trips →
    (∀ i : Fin 512, arg12.view.read (Elt Ideal) (arg12.view.writes (Elt Ideal) G (st_k0_t1 𝒱 c bd arg0 harg0 arg1 harg1 arg2 harg2 arg3 harg3 arg4 harg4 arg5 harg5 arg6 harg6 arg7 harg7 arg8 harg8 arg9 harg9 arg10 harg10 arg11 harg11 arg12 harg12 s v n hk lanes X G init k).2) (ix2 0 i)
        = flag (decide (blocked N A k i))) ∧
    (∀ i : Fin 512, (st_k0_t1 𝒱 c bd arg0 harg0 arg1 harg1 arg2 harg2 arg3 harg3 arg4 harg4 arg5 harg5 arg6 harg6 arg7 harg7 arg8 harg8 arg9 harg9 arg10 harg10 arg11 harg11 arg12 harg12 s v n hk lanes X G init k).1 (ix2 0 i)
        = flag (decide (if i.val < 8 * k then greedy N A i else i.val < N)))
  | 0, _ => by
      refine ⟨fun i => (hG i).trans (congrArg flag ?_), fun i => (hinit i).trans (congrArg flag ?_)⟩
      · symm; rw [decide_eq_false_iff_not]; rintro ⟨j, hj, _⟩; omega
      · exact decide_eq_decide.mpr (by simp)
  | k + 1, hk1 => by
      have h64 : k < 64 := by
        have := (trips_spec ⟨N, by omega⟩).1
        rw [hn] at hk1
        exact lt_of_lt_of_le hk1 this
      obtain ⟨hrow, hkeep⟩ := loop_inv k (by omega)
      have hs := st_k0_t1_succ 𝒱 c bd arg0 harg0 arg1 harg1 arg2 harg2 arg3 harg3 arg4 harg4 arg5 harg5 arg6 harg6 arg7 harg7 arg8 harg8 arg9 harg9 arg10 harg10 arg11 harg11 arg12 harg12 s v n hk lanes X G init ⟨k, hk1⟩
      have hs' : st_k0_t1 𝒱 c bd arg0 harg0 arg1 harg1 arg2 harg2 arg3 harg3 arg4 harg4 arg5 harg5 arg6 harg6 arg7 harg7 arg8 harg8 arg9 harg9 arg10 harg10 arg11 harg11 arg12 harg12 s v n hk lanes X G init (k + 1) = _ := hs
      rw [hs', tripR_eq, tripL_eq]
      have hB : ∀ i : Fin 512, tripRow arg12 (arg12.view.writes (Elt Ideal) G (st_k0_t1 𝒱 c bd arg0 harg0 arg1 harg1 arg2 harg2 arg3 harg3 arg4 harg4 arg5 harg5 arg6 harg6 arg7 harg7 arg8 harg8 arg9 harg9 arg10 harg10 arg11 harg11 arg12 harg12 s v n hk lanes X G init k).2) (ix2 0 i)
          = flag (decide (blocked N A k i)) := fun i => by
        unfold tripRow
        rw [View.readAt_full]
        exact hrow i
      have hck := tripRows_iff arg11 hk X A hX ⟨k, hk1⟩ h64
      constructor
      · intro i
        rw [List.singleton_append, View.read_writes_full]
        exact trip_row arg11 arg12 hk X ⟨k, hk1⟩ _ hn hN h64 A hck hB i
      · intro i
        dsimp only
        rw [chunk_put _ _ h64]
        by_cases h : 8 * k ≤ i.val ∧ i.val < 8 * k + 8
        · rw [dif_pos h]
          have hb : ∀ l : Fin 8, trip_k0_t1.sl.v336 arg11 arg12 n hk lanes X ⟨k, hk1⟩
              (arg12.view.writes (Elt Ideal) G (st_k0_t1 𝒱 c bd arg0 harg0 arg1 harg1 arg2 harg2 arg3 harg3 arg4 harg4 arg5 harg5 arg6 harg6 arg7 harg7 arg8 harg8 arg9 harg9 arg10 harg10 arg11 harg11 arg12 harg12 s v n hk lanes X G init k).2) (ix2 0 l) = flag (decide (greedy N A (place k l))) := fun l => by
            rw [← kept_bit hn hN ⟨k, hk1⟩ h64 A _ hck _ hB l, ← trip_word, ← shift_and_vector]
            unfold trip_k0_t1.sl.v336 trip_k0_t1.sl.v335 trip_k0_t1.sl.v334 trip_k0_t1.sl.v333
            pointwise
          rw [hb]
          refine congrArg flag (decide_eq_decide.mpr ?_)
          rw [if_pos (by omega)]
          exact iff_of_eq (congrArg _ (Fin.ext (by rw [place_val h64]; show 8 * k + (i.val - 8 * k) = i.val; omega)))
        · rw [dif_neg h, hkeep]
          refine congrArg flag (decide_eq_decide.mpr ?_)
          by_cases h8 : i.val < 8 * k
          · rw [if_pos h8, if_pos (by omega)]
          · rw [if_neg h8, if_neg (by omega)]

include hn hN hX hG hinit in
/-- The keep flags after the loop are the greedy ones. -/
theorem loop_keep (i : Fin 512) : (st_k0_t1 𝒱 c bd arg0 harg0 arg1 harg1 arg2 harg2 arg3 harg3 arg4 harg4 arg5 harg5 arg6 harg6 arg7 harg7 arg8 harg8 arg9 harg9 arg10 harg10 arg11 harg11 arg12 harg12 s v n hk lanes X G init (k0_t1_loop n).trips).1 (ix2 0 i) = flag (decide (greedy N A i)) := by
  rw [(loop_inv 𝒱 c bd arg0 harg0 arg1 harg1 arg2 harg2 arg3 harg3 arg4 harg4 arg5 harg5 arg6 harg6 arg7 harg7 arg8 harg8 arg9 harg9 arg10 harg10 arg11 harg11 arg12 harg12 s v hk X G init hn hN A hX hG hinit _ le_rfl).2]
  refine congrArg flag (decide_eq_decide.mpr ?_)
  split_ifs with h
  · rfl
  · have hc := (trips_spec ⟨N, by omega⟩).2
    have hc' : N ≤ 8 * (k0_t1_loop n).trips := by rw [hn]; exact hc
    unfold greedy
    rw [kept_iff]
    constructor
    · intro hi; omega
    · exact fun hi => hi.1
end

end Cert.Proof.Sort
-- ==== Proof.SortSpec.lean ====
/-
  What the sorted suppression computes, as functions of the boxes, scores and labels: the order, the overlaps, and the places kept.
-/
module

public import proofs.«01_k».proof.Proof.Order
public import proofs.«01_k».proof.Proof.Greedy
public import Idealize.ShloMosaic.PureOps.Ideal.Laws

@[expose] public section

noncomputable section

namespace Cert.Proof.Sort

open Idealize.ShloMosaic
open scoped Classical

/-- One half, as the programs write it. -/
abbrev half : EReal := Ideal.ofBits .f32 0x3F000000#32

/-- Coordinate `k` of the box the sort puts at place `r`. -/
def coord (b : Fin 512 → Fin 4 → EReal) (s : Fin 512 → EReal) (k : Fin 4) (r : Fin 512) : EReal := b (sorted s r) k

/-- Intersection over union of two boxes, from their corners: `j` first. -/
def overlap (x1 y1 x2 y2 : Fin 512 → EReal) (j i : Fin 512) : EReal :=
  Ideal.div (max (min (x2 j) (x2 i) - max (x1 j) (x1 i)) 0 * max (min (y2 j) (y2 i) - max (y1 j) (y1 i)) 0)
    ((x2 j - x1 j) * (y2 j - y1 j) + (x2 i - x1 i) * (y2 i - y1 i)
      - max (min (x2 j) (x2 i) - max (x1 j) (x1 i)) 0 * max (min (y2 j) (y2 i) - max (y1 j) (y1 i)) 0)

/-- The box at place `j` overlaps the one at place `i` by more than one half. -/
def hits (b : Fin 512 → Fin 4 → EReal) (s : Fin 512 → EReal) (j i : Fin 512) : Prop :=
  half < overlap (coord b s 0) (coord b s 1) (coord b s 2) (coord b s 3) j i

/-- The box at place `i` scores more than one half. -/
def scores (s : Fin 512 → EReal) (i : Fin 512) : Prop := half < s (sorted s i)

/-- The place is kept: its box scores more than one half, and no kept place before it overlaps it by more than one half. -/
def keeps (b : Fin 512 → Fin 4 → EReal) (s : Fin 512 → EReal) : Fin 512 → Prop := kept (scores s) (hits b s)

/-- The number of boxes that score more than one half. -/
def valid (s : Fin 512 → EReal) : ℕ := (Finset.univ.filter (scores s)).card

theorem valid_le (s : Fin 512 → EReal) : valid s ≤ 512 := (Finset.card_le_univ _).trans (by simp)

/-- The boxes that score more than one half are the first ones. -/
theorem lt_valid (s : Fin 512 → EReal) (i : Fin 512) : i.val < valid s ↔ scores s i := by
  constructor
  · intro h
    by_contra hn
    have hsub : Finset.univ.filter (scores s) ⊆ Finset.Iio i := fun j hj => by
      rw [Finset.mem_Iio]
      by_contra hij
      exact hn (lt_of_lt_of_le (Finset.mem_filter.mp hj).2 (sorted_anti s (not_lt.mp hij)))
    have := Finset.card_le_card hsub
    rw [Fin.card_Iio] at this
    unfold valid at h
    omega
  · intro h
    have hsub : Finset.Iic i ⊆ Finset.univ.filter (scores s) := fun j hj =>
      Finset.mem_filter.mpr ⟨Finset.mem_univ _, lt_of_lt_of_le h (sorted_anti s (Finset.mem_Iic.mp hj))⟩
    have := Finset.card_le_card hsub
    rw [Fin.card_Iic] at this
    unfold valid
    omega

end Cert.Proof.Sort
-- ==== Proof.SortColumns.lean ====
/-
  A buffer of four columns stored one by one, read back.
-/
module

public import proofs.«01_k».proof.Proof.Gen.NmsSortIdeal.Launch
public import proofs.«01_k».proof.Proof.Gen.NmsSortIdeal.Skeleton
public import proofs.«01_k».proof.Proof.SortBits
public import Idealize.ShloMosaic.Lib.WritesUnit
public import Idealize.ShloMosaic.PureOps.Ideal.Laws

@[expose] public section

noncomputable section

namespace Cert.Proof.Sort

open Cert.NmsSortIdeal Cert.NmsSortIdeal.Gen

open Idealize.ShloMosaic
open Idealize.ShloMosaic.TcCoe Idealize.ShloMosaic.Tactic

/-- Four columns stored one by one, read back. -/
theorem four_cols (M : Memref sig .tc .vmem S512x4 .f32) (f : BufTy.Contents (Elt Ideal) M.view.ty) (w0 w1 w2 w3 : FVec Ideal S512x1 .f32)
    (r : Fin 512) (k : Fin 4) :
    M.view.read (Elt Ideal) (M.view.writes (Elt Ideal) f
        [⟨Rect.unit ![0, 3] S512x1.size inb_S512x4_S512x1_0_3, w3⟩, ⟨Rect.unit ![0, 2] S512x1.size inb_S512x4_S512x1_0_2, w2⟩,
          ⟨Rect.unit ![0, 1] S512x1.size inb_S512x4_S512x1_0_1, w1⟩, ⟨Rect.unit ![0, 0] S512x1.size inb_S512x4_S512x1_0_0, w0⟩]) (ix2 r k)
      = (![w0, w1, w2, w3] : Fin 4 → FVec Ideal S512x1 .f32) k (ix2 r 0) := by
  have here : ∀ (j : Fin 4) (a : Fin 2), (ix2 r j a).val = (![0, j.val] : Fin 2 → ℕ) a + (ix2 r (0 : Fin 1) a).val := fun j a =>
    match a with
    | 0 => (Nat.zero_add _).symm
    | 1 => rfl
  have before : ∀ j i : ℕ, j < i → j < (![0, i] : Fin 2 → ℕ) 1 := fun _ _ h => h
  match k with
  | 3 => exact View.read_writes_cons_unit_of_mem M.view f inb_S512x4_S512x1_0_3 w3 _ (ix2 r 3) (ix2 r 0) rfl (here 3)
  | 2 =>
    rw [View.read_writes_cons_unit_of_not_mem _ _ _ _ _ _ rfl 1 (Or.inl (before 2 3 (by decide)))]
    exact View.read_writes_cons_unit_of_mem M.view f inb_S512x4_S512x1_0_2 w2 _ (ix2 r 2) (ix2 r 0) rfl (here 2)
  | 1 =>
    rw [View.read_writes_cons_unit_of_not_mem _ _ _ _ _ _ rfl 1 (Or.inl (before 1 3 (by decide))),
      View.read_writes_cons_unit_of_not_mem _ _ _ _ _ _ rfl 1 (Or.inl (before 1 2 (by decide)))]
    exact View.read_writes_cons_unit_of_mem M.view f inb_S512x4_S512x1_0_1 w1 _ (ix2 r 1) (ix2 r 0) rfl (here 1)
  | 0 =>
    rw [View.read_writes_cons_unit_of_not_mem _ _ _ _ _ _ rfl 1 (Or.inl (before 0 3 (by decide))),
      View.read_writes_cons_unit_of_not_mem _ _ _ _ _ _ rfl 1 (Or.inl (before 0 2 (by decide))),
      View.read_writes_cons_unit_of_not_mem _ _ _ _ _ _ rfl 1 (Or.inl (before 0 1 (by decide)))]
    exact View.read_writes_cons_unit_of_mem M.view f inb_S512x4_S512x1_0_0 w0 _ (ix2 r 0) (ix2 r 0) rfl (here 0)

end Cert.Proof.Sort
-- ==== Proof.SortKernel.lean ====
/-
  The sort kernel's run: what it leaves in its result buffers, as functions of the boxes, scores and labels it is given.
-/
module

public import proofs.«01_k».proof.Proof.SortLoop
public import proofs.«01_k».proof.Proof.SortSpec
public import proofs.«01_k».proof.Proof.SortColumns
public import proofs.«01_k».proof.Proof.SortBody
public import Idealize.ShloMosaic.Lib.IndicatorCount

@[expose] public section

noncomputable section

namespace Cert.Proof.Sort

open Cert.NmsSortIdeal Cert.NmsSortIdeal.Gen

open Idealize.ShloMosaic
open Idealize.ShloMosaic.TcCoe Idealize.ShloMosaic.Tactic
open scoped Classical

section
variable (c : Dev nD)
  (M0 : Memref sig .tc .vmem S512x4 .f32) (h0 : M0.IsWhole)
  (M1 : Memref sig .tc .vmem S512x1 .f32) (h1 : M1.IsWhole)
  (M2 : Memref sig .tc .vmem S1x512 .f32) (h2 : M2.IsWhole)
  (M3 : Memref sig .tc .vmem S1x512 .i32) (h3 : M3.IsWhole)
  (M4 : Memref sig .tc .vmem S512x4 .f32) (h4 : M4.IsWhole)
  (M5 : Memref sig .tc .vmem S512x1 .i32) (h5 : M5.IsWhole)
  (M6 : Memref sig .tc .vmem S512x1 .f32) (h6 : M6.IsWhole)
  (M7 : Memref sig .tc .vmem S512x1 .i32) (h7 : M7.IsWhole)
  (M8 : Memref sig .tc .vmem S512x1 .i32) (h8 : M8.IsWhole)
  (M9 : Memref sig .tc .vmem S512x1 .i32) (h9 : M9.IsWhole)
  (M10 : Memref sig .tc .vmem S512x1 .i32) (h10 : M10.IsWhole)
  (M11 : Memref sig .tc .vmem S512x512 .f32) (h11 : M11.IsWhole)
  (M12 : Memref sig .tc .vmem S1x512 .i32) (h12 : M12.IsWhole)
  (f0 : Bf (F := Ideal) c M0) (f1 : Bf (F := Ideal) c M1) (f2 : Bf (F := Ideal) c M2) (f3 : Bf (F := Ideal) c M3)
  (b : Fin 512 → Fin 4 → EReal) (s : Fin 512 → EReal) (lab : Fin 512 → BitVec 32)
  (hf0 : ∀ i k, M0.view.read (Elt Ideal) f0 (ix2 i k) = b i k)
  (hf1 : ∀ i, M1.view.read (Elt Ideal) f1 (ix2 i 0) = s i)
  (hf2 : ∀ i, M2.view.read (Elt Ideal) f2 (ix2 0 i) = s i)
  (hf3 : ∀ i, M3.view.read (Elt Ideal) f3 (ix2 0 i) = lab i)

/-- The scores as the kernel loads them, as a column and as a row. -/
abbrev scoreCol := View.readAt (Elt Ideal) M1.view (Rect.unit ![0, 0] S512x1.size inb_S512x1_S512x1_0_0).toLoadRect f1
abbrev scoreRow := View.readAt (Elt Ideal) M2.view (Rect.unit ![0, 0] S1x512.size inb_S1x512_S1x512_0_0).toLoadRect f2

include hf1 in
theorem scoreCol_eq (i : Fin 512) : scoreCol c M1 f1 (ix2 i 0) = s i := by
  unfold scoreCol
  rw [View.readAt_full, hf1]

include hf2 in
theorem scoreRow_eq (i : Fin 512) : scoreRow c M2 f2 (ix2 0 i) = s i := by
  unfold scoreRow
  rw [View.readAt_full, hf2]

include hf0 in
/-- Column `k` of the boxes, as the kernel loads it. -/
theorem boxCol_eq (k : Fin 4) (inb : ∀ a, (![0, k.val] : Fin 2 → ℕ) a + S512x1.size a ≤ S512x4.size a) (i : Fin 512) :
    View.readAt (Elt Ideal) M0.view (Rect.unit (s := S512x4) ![0, k.val] S512x1.size inb).toLoadRect f0 (ix2 i 0) = b i k := by
  rw [View.readAt_unit _ _ _ rfl inb, ← hf0]
  refine congrArg (M0.view.read (Elt Ideal) f0) (funext fun a => Fin.ext ?_)
  match a with
  | 0 => show 0 + 1 * i.val = i.val; omega
  | 1 => show k.val + 1 * 0 = k.val; omega

include hf0 hf1 hf2 in
/-- The sorted corners, as rows. -/
theorem corner_rows (r : Fin 512) :
    sortRun.sl.r_4 c M0 M1 M2 f0 f1 f2 (ix2 0 r) = coord b s 0 r ∧ sortRun.sl.r_5 c M0 M1 M2 f0 f1 f2 (ix2 0 r) = coord b s 1 r ∧
    sortRun.sl.r_6 c M0 M1 M2 f0 f1 f2 (ix2 0 r) = coord b s 2 r ∧ sortRun.sl.r_7 c M0 M1 M2 f0 f1 f2 (ix2 0 r) = coord b s 3 r := by
  have h2 := scoreCol_eq c M1 f1 s hf1
  have h4 := scoreRow_eq c M2 f2 s hf2
  have hb := fun k inb => boxCol_eq c M0 f0 b hf0 k inb (sorted s r)
  exact ⟨(x1_row s _ _ h2 h4 _ r).trans (hb 0 _), (y1_row s _ _ h2 h4 _ r).trans (hb 1 _),
    (x2_row s _ _ h2 h4 _ r).trans (hb 2 _), (y2_row s _ _ h2 h4 _ r).trans (hb 3 _)⟩

include hf0 hf1 hf2 in
/-- The sorted corners, as columns. -/
theorem corner_cols (r : Fin 512) :
    sortRun.sl.r_8 c M0 M1 M2 f0 f1 f2 (ix2 r 0) = coord b s 0 r ∧ sortRun.sl.r_9 c M0 M1 M2 f0 f1 f2 (ix2 r 0) = coord b s 1 r ∧
    sortRun.sl.r_10 c M0 M1 M2 f0 f1 f2 (ix2 r 0) = coord b s 2 r ∧ sortRun.sl.r_11 c M0 M1 M2 f0 f1 f2 (ix2 r 0) = coord b s 3 r := by
  obtain ⟨h0, h1, h2, h3⟩ := corner_rows c M0 M1 M2 f0 f1 f2 b s hf0 hf1 hf2 r
  exact ⟨(x1_col _ r).trans h0, (y1_col _ r).trans h1, (x2_col _ _ r).trans h2, (y2_col _ _ r).trans h3⟩

include hf0 hf1 hf2 in
/-- The overlap matrix the kernel stores. -/
theorem overlap_eq (j i : Fin 512) :
    k0_pay47 (sortRun.sl.r_4 c M0 M1 M2 f0 f1 f2) (sortRun.sl.r_5 c M0 M1 M2 f0 f1 f2)
        (sortRun.sl.r_6 c M0 M1 M2 f0 f1 f2) (sortRun.sl.r_7 c M0 M1 M2 f0 f1 f2) (sortRun.sl.r_8 c M0 M1 M2 f0 f1 f2)
        (sortRun.sl.r_9 c M0 M1 M2 f0 f1 f2) (sortRun.sl.r_10 c M0 M1 M2 f0 f1 f2)
        (sortRun.sl.r_11 c M0 M1 M2 f0 f1 f2) (ix2 j i)
      = overlap (coord b s 0) (coord b s 1) (coord b s 2) (coord b s 3) j i := by
  obtain ⟨a0, a1, a2, a3⟩ := corner_rows c M0 M1 M2 f0 f1 f2 b s hf0 hf1 hf2 i
  obtain ⟨b0, b1, b2, b3⟩ := corner_cols c M0 M1 M2 f0 f1 f2 b s hf0 hf1 hf2 j
  obtain ⟨c0, c1, c2, c3⟩ := corner_cols c M0 M1 M2 f0 f1 f2 b s hf0 hf1 hf2 i
  unfold k0_pay47
  pointwise
  rw [a0, a1, a2, a3, b0, b1, b2, b3]
  rfl

include hf1 hf2 in
/-- The sorted scores, as a row. -/
theorem sortedScores_eq (r : Fin 512) : sortRun.sl.r_12 c M1 M2 f1 f2 (ix2 0 r) = s (sorted s r) :=
  score_row s _ _ (scoreCol_eq c M1 f1 s hf1) (scoreRow_eq c M2 f2 s hf2) r

include hf1 hf2 in
/-- The count of the boxes that score more than one half. -/
theorem count_eq : sortRun.sl.v145 c M1 M2 f1 f2 = BitVec.ofNat 32 (valid s) := by
  have h := sortedScores_eq c M1 M2 f1 f2 s hf1 hf2
  unfold sortRun.sl.v145 k0_pay50 k0_pay49 k0_pay48
  pointwise
  simp only [h]
  rw [IndicatorCount.fold_addi_setWidth_eq_card (fun x : Fin 1 × Fin 512 => BitVec.ofBool (decide (half < s (sorted s x.2))))]
  refine congrArg (BitVec.ofNat 32) ?_
  unfold valid
  refine Finset.card_bij (fun x _ => x.2) (fun x hx => ?_) (fun x _ y _ hxy => Prod.ext (Subsingleton.elim _ _) hxy) fun i hi => ?_
  · have := (Finset.mem_filter.mp hx).2
    rw [ofBool_eq_one, decide_eq_true_iff] at this
    exact Finset.mem_filter.mpr ⟨Finset.mem_univ _, this⟩
  · refine ⟨(0, i), Finset.mem_filter.mpr ⟨Finset.mem_univ _, ?_⟩, rfl⟩
    rw [ofBool_eq_one, decide_eq_true_iff]
    exact (Finset.mem_filter.mp hi).2

include hf0 hf1 hf2 in
/-- The keep flags as a row. -/
theorem keep_row (i : Fin 512) : sortRun.sl.r_17 c M0 h0 M1 h1 M2 h2 M3 h3 M4 h4 M5 h5 M6 h6 M7 h7 M8 h8 M9 h9 M10 h10 M11 h11 M12 h12 f0 f1 f2 (ix2 0 i) = flag (decide (keeps b s i)) := by
  have hn := count_eq c M1 M2 f1 f2 s hf1 hf2
  have ht2 : Scf.trips (k0_t2_loop (sortRun.sl.v145 c M1 M2 f1 f2)).lb (k0_t2_loop (sortRun.sl.v145 c M1 M2 f1 f2)).ub
      (k0_t2_loop (sortRun.sl.v145 c M1 M2 f1 f2)).st = 0 := by
    rw [hn]; exact rest_trips ⟨valid s, Nat.lt_succ_of_le (valid_le s)⟩
  unfold sortRun.sl.r_17
  rw [ht2]
  have hk : keeps b s = greedy (valid s) (hits b s) := by
    unfold keeps greedy
    rw [show scores s = fun i : Fin 512 => i.val < valid s from funext fun i => propext (lt_valid s i).symm]
  rw [hk]
  refine loop_keep Variants.none c none M0 h0 M1 h1 M2 h2 M3 h3 M4 h4 M5 h5 M6 h6 M7 h7 M8 h8 M9 h9 M10 h10 M11 h11 M12 h12 (sortRun.sl.r_12 c M1 M2 f1 f2) k0_pay48 _ _ _ _ hn (valid_le s) (hits b s) ?_ ?_ ?_ i
  · intro j i
    unfold sortRun.sl.H11_1
    rw [View.read_writes_full, overlap_eq c M0 M1 M2 f0 f1 f2 b s hf0 hf1 hf2]
    rfl
  · intro i
    unfold sortRun.sl.H12_1
    rw [View.read_writes_full]
    unfold k0_pay51
    pointwise
    rfl
  · intro i
    unfold k0_pay53 k0_pay49 k0_pay48
    pointwise
    rw [sortedScores_eq c M1 M2 f1 f2 s hf1 hf2]
    exact congrArg flag (decide_eq_decide.mpr (lt_valid s i).symm)

/-- A row of flags turned into a column. -/
theorem flag_col (v : IVec S1x512 32) (p : Fin 512 → Bool) (hv : ∀ i, v (ix2 0 i) = flag (p i)) (r : Fin 512) :
    k0_pay59 sortRun.sl.v0 sortRun.sl.v1 v 0#32 (ix2 r 0) = flag (p r) := by
  unfold k0_pay59 k0_pay58 sortRun.sl.v0 sortRun.sl.v1
  pointwise
  simp only [hv]
  have hne : ∀ i : Fin 512, i ≠ r → IntOp.cmpi .eq (BitVec.ofNat 32 r.val) (BitVec.ofNat 32 i.val) = 0#1 := fun i hi => by
    rw [eq_word (by omega) (by omega), decide_eq_false (fun h => hi (Fin.ext h.symm))]
    rfl
  rw [fold_addi_single _ r]
  · rw [ne_flag, eq_word (by omega) (by omega), decide_eq_true rfl]
    cases p r <;> decide
  · intro i hi
    rw [hne i hi, ne_flag]
    cases p i <;> decide

include hf0 hf1 hf2 in
/-- The keep flags as a column of words. -/
theorem keep_col (r : Fin 512) :
    k0_pay59 sortRun.sl.v0 sortRun.sl.v1 (sortRun.sl.r_17 c M0 h0 M1 h1 M2 h2 M3 h3 M4 h4 M5 h5 M6 h6 M7 h7 M8 h8 M9 h9 M10 h10 M11 h11 M12 h12 f0 f1 f2) 0#32 (ix2 r 0) = flag (decide (keeps b s r)) :=
  flag_col _ _ (keep_row c M0 h0 M1 h1 M2 h2 M3 h3 M4 h4 M5 h5 M6 h6 M7 h7 M8 h8 M9 h9 M10 h10 M11 h11 M12 h12 f0 f1 f2 b s hf0 hf1 hf2) r

include hf0 hf1 hf2 in
/-- The keep flags as a column of numbers. -/
theorem keep_colf (r : Fin 512) :
    k0_pay60 (F := Ideal) sortRun.sl.v0 sortRun.sl.v1 (sortRun.sl.r_17 c M0 h0 M1 h1 M2 h2 M3 h3 M4 h4 M5 h5 M6 h6 M7 h7 M8 h8 M9 h9 M10 h10 M11 h11 M12 h12 f0 f1 f2) 0#32 (ix2 r 0)
      = if keeps b s r then 1 else 0 := by
  unfold k0_pay60
  pointwise
  rw [keep_col c M0 h0 M1 h1 M2 h2 M3 h3 M4 h4 M5 h5 M6 h6 M7 h7 M8 h8 M9 h9 M10 h10 M11 h11 M12 h12 f0 f1 f2 b s hf0 hf1 hf2]
  refine (sitofp_ofBool _).trans ?_
  simp only [decide_eq_true_eq]

include hf0 hf1 hf2 in
/-- The boxes the run leaves. -/
theorem out_boxes (r : Fin 512) (k : Fin 4) :
    M4.view.read (Elt Ideal) (sortRun c M0 h0 M1 h1 M2 h2 M3 h3 M4 h4 M5 h5 M6 h6 M7 h7 M8 h8 M9 h9 M10 h10 M11 h11 M12 h12 f0 f1 f2 f3).1.1 (ix2 r k) = coord b s k r * if keeps b s r then 1 else 0 := by
  obtain ⟨b0, b1, b2, b3⟩ := corner_cols c M0 M1 M2 f0 f1 f2 b s hf0 hf1 hf2 r
  have hk := keep_colf c M0 h0 M1 h1 M2 h2 M3 h3 M4 h4 M5 h5 M6 h6 M7 h7 M8 h8 M9 h9 M10 h10 M11 h11 M12 h12 f0 f1 f2 b s hf0 hf1 hf2 r
  unfold sortRun
  dsimp only
  unfold sortRun.sl.H4_4
  refine (four_cols M4 _ _ _ _ _ r k).trans ?_
  match k with
  | 0 => show k0_pay61 _ _ _ _ _ _ = _; unfold k0_pay61; pointwise; rw [hk, b0]
  | 1 => show k0_pay62 _ _ _ _ _ _ = _; unfold k0_pay62; pointwise; rw [hk, b1]
  | 2 => show k0_pay63 _ _ _ _ _ _ = _; unfold k0_pay63; pointwise; rw [hk, b2]
  | 3 => show k0_pay64 _ _ _ _ _ _ = _; unfold k0_pay64; pointwise; rw [hk, b3]

include hf0 hf1 hf2 hf3 in
/-- The labels the run leaves. -/
theorem out_labels (r : Fin 512) :
    M5.view.read (Elt Ideal) (sortRun c M0 h0 M1 h1 M2 h2 M3 h3 M4 h4 M5 h5 M6 h6 M7 h7 M8 h8 M9 h9 M10 h10 M11 h11 M12 h12 f0 f1 f2 f3).1.2.1 (ix2 r 0) = lab (sorted s r) * flag (decide (keeps b s r)) := by
  have hk := keep_col c M0 h0 M1 h1 M2 h2 M3 h3 M4 h4 M5 h5 M6 h6 M7 h7 M8 h8 M9 h9 M10 h10 M11 h11 M12 h12 f0 f1 f2 b s hf0 hf1 hf2 r
  have hl : sortRun.sl.r_14 c M1 M2 M3 f1 f2 f3 (ix2 r 0) = lab (sorted s r) := by
    refine (label_col s _ _ (scoreCol_eq c M1 f1 s hf1) (scoreRow_eq c M2 f2 s hf2) _ r).trans ?_
    rw [View.readAt_full, hf3]
  unfold sortRun
  dsimp only
  unfold sortRun.sl.H5_1
  rw [View.read_writes_full]
  unfold k0_pay65
  pointwise
  rw [hk, hl]
  rfl

include hf0 hf1 hf2 in
/-- The scores the run leaves. -/
theorem out_scores (r : Fin 512) :
    M6.view.read (Elt Ideal) (sortRun c M0 h0 M1 h1 M2 h2 M3 h3 M4 h4 M5 h5 M6 h6 M7 h7 M8 h8 M9 h9 M10 h10 M11 h11 M12 h12 f0 f1 f2 f3).1.2.2.1 (ix2 r 0) = s (sorted s r) * if keeps b s r then 1 else 0 := by
  have hk := keep_colf c M0 h0 M1 h1 M2 h2 M3 h3 M4 h4 M5 h5 M6 h6 M7 h7 M8 h8 M9 h9 M10 h10 M11 h11 M12 h12 f0 f1 f2 b s hf0 hf1 hf2 r
  have hs : sortRun.sl.r_13 c M1 M2 f1 f2 (ix2 r 0) = s (sorted s r) :=
    (score_col _ _ r).trans (sortedScores_eq c M1 M2 f1 f2 s hf1 hf2 r)
  unfold sortRun
  dsimp only
  unfold sortRun.sl.H6_1
  rw [View.read_writes_full]
  unfold k0_pay66
  pointwise
  rw [hk, hs]

include hf0 hf1 hf2 in
/-- The keep flags the run leaves. -/
theorem out_keep (r : Fin 512) :
    M8.view.read (Elt Ideal) (sortRun c M0 h0 M1 h1 M2 h2 M3 h3 M4 h4 M5 h5 M6 h6 M7 h7 M8 h8 M9 h9 M10 h10 M11 h11 M12 h12 f0 f1 f2 f3).1.2.2.2.2.1 (ix2 r 0) = flag (decide (keeps b s r)) := by
  have hk := keep_col c M0 h0 M1 h1 M2 h2 M3 h3 M4 h4 M5 h5 M6 h6 M7 h7 M8 h8 M9 h9 M10 h10 M11 h11 M12 h12 f0 f1 f2 b s hf0 hf1 hf2 r
  unfold sortRun
  dsimp only
  unfold sortRun.sl.H8_1
  rw [View.read_writes_full]
  unfold k0_pay67
  pointwise
  rw [hk, ne_flag]
end

end Cert.Proof.Sort
-- ==== Proof.SortOut.lean ====
/-
  What the sort leaves in its result arrays: the kept boxes, labels and scores in the order of the scores, and the keep flags, as
  functions of its arguments.
-/
module

public import proofs.«01_k».proof.Proof.SortRegion
public import proofs.«01_k».proof.Proof.SortKernel
public import Idealize.ShloMosaic.Lib.StableHlo.RunRead
public import Idealize.ShloMosaic.Lib.Pipeline.ValueKit
public import Idealize.ShloMosaic.Lib.Pointwise

@[expose] public section

noncomputable section

namespace Cert.Proof.Sort

open Cert.NmsSortIdeal Cert.NmsSortIdeal.Gen

open Idealize.ShloMosaic Idealize.SL.Sem
open Idealize.ShloMosaic.TcCoe Idealize.ShloMosaic.Tactic
open scoped Classical

/-- The results as arrays: rows of the boxes, labels and scores by rank of the score, each multiplied by its keep flag. -/
def boxesOut (b : S512x4.Idx → EReal) (s : S512.Idx → EReal) : S512x4.Idx → EReal := fun x =>
  coord (fun i k => b (ix2 i k)) (fun i => s (ix1 i)) (x 1) (x 0) * if keeps (fun i k => b (ix2 i k)) (fun i => s (ix1 i)) (x 0) then 1 else 0
def labelsOut (b : S512x4.Idx → EReal) (s : S512.Idx → EReal) (lab : S512.Idx → BitVec 32) : S512x1.Idx → BitVec 32 := fun x =>
  lab (ix1 (sorted (fun i => s (ix1 i)) (x 0))) * flag (decide (keeps (fun i k => b (ix2 i k)) (fun i => s (ix1 i)) (x 0)))
def scoresOut (b : S512x4.Idx → EReal) (s : S512.Idx → EReal) : S512x1.Idx → EReal := fun x =>
  s (ix1 (sorted (fun i => s (ix1 i)) (x 0))) * if keeps (fun i k => b (ix2 i k)) (fun i => s (ix1 i)) (x 0) then 1 else 0
/-- The keep flags as bits. -/
def keepOut (b : S512x4.Idx → EReal) (s : S512.Idx → EReal) : S512x1.Idx → BitVec 1 := fun x =>
  BitVec.ofBool (decide (keeps (fun i k => b (ix2 i k)) (fun i => s (ix1 i)) (x 0)))
/-- The keep flags as words, as the kernel writes them. -/
def keepWords (b : S512x4.Idx → EReal) (s : S512.Idx → EReal) : S512x1.Idx → BitVec 32 := fun x =>
  flag (decide (keeps (fun i k => b (ix2 i k)) (fun i => s (ix1 i)) (x 0)))

variable (m : (ℓ : Loc nD τ sig) → Buf (Elt Ideal) ℓ) (c : Dev nD)

/-- The arguments read from memory. -/
abbrev argB : S512x4.Idx → EReal := m ((c.tc : Thread nD τ).loc main_arg0)
abbrev argS : S512.Idx → EReal := m ((c.tc : Thread nD τ).loc main_arg1)
abbrev argL : S512.Idx → BitVec 32 := m ((c.tc : Thread nD τ).loc main_arg2)

/-- The buffers as the region finds them, one per reference. -/
abbrev VR (m : (ℓ : Loc nD τ sig) → Buf (Elt Ideal) ℓ) (c : Dev nD) (b : Ref sig .tc) : Buf (Elt Ideal) ((c : Thread nD τ).loc b) := atRegion m c (Proc.devRef .tc b)

theorem at_v0 : VR m c main_v0 = (broadcastInDim S512x1 ![0] bcast_S512_S512x1_0 (argS m c) : S512x1.Idx → EReal) := by
  unfold VR atRegion hostOps0
  rw [StableHlo.after_cons, StableHlo.after_cons, StableHlo.after_cons, StableHlo.after_nil,
    StableHlo.unary_result_ne _ _ _ _ _ _ (by decide), StableHlo.unary_result_ne _ _ _ _ _ _ (by decide), StableHlo.unary_result]

theorem at_v1 : VR m c main_v1 = (broadcastInDim S1x512 ![1] bcast_S512_S1x512_1 (argS m c) : S1x512.Idx → EReal) := by
  unfold VR atRegion hostOps0
  rw [StableHlo.after_cons, StableHlo.after_cons, StableHlo.after_cons, StableHlo.after_nil,
    StableHlo.unary_result_ne _ _ _ _ _ _ (by decide), StableHlo.unary_result, StableHlo.unary_result_ne _ _ _ _ _ _ (by decide)]

theorem at_v2 : VR m c main_v2 = (broadcastInDim S1x512 ![1] bcast_S512_S1x512_1 (argL m c) : S1x512.Idx → BitVec 32) := by
  unfold VR atRegion hostOps0
  rw [StableHlo.after_cons, StableHlo.after_cons, StableHlo.after_cons, StableHlo.after_nil,
    StableHlo.unary_result, StableHlo.unary_result_ne _ _ _ _ _ _ (by decide), StableHlo.unary_result_ne _ _ _ _ _ _ (by decide)]

/-- The staged blocks are the arguments. -/
theorem stg0_eq (i : Fin 512) (k : Fin 4) : stg0 (VR m) c (ix2 i k) = argB m c (ix2 i k) := by
  refine (show _ = VR m c main_arg0 (ix2 i k) from ?_).trans (congrFun (atRegion_of m c main_arg0 (by decide)) _)
  refine congrArg (VR m c main_arg0) (funext fun a => Fin.ext ?_)
  match a with
  | ⟨0, _⟩ => show 0 * 512 + 1 * i.val = i.val; omega
  | ⟨1, _⟩ => show 0 * 4 + 1 * k.val = k.val; omega

theorem stg1_eq (i : Fin 512) : stg1 (VR m) c (ix2 i 0) = argS m c (ix1 i) := by
  refine (show _ = VR m c main_v0 (ix2 i 0) from ?_).trans ((congrFun (at_v0 m c) _).trans ?_)
  · refine congrArg (VR m c main_v0) (funext fun a => Fin.ext ?_)
    match a with
    | ⟨0, _⟩ => show 0 * 512 + 1 * i.val = i.val; omega
    | ⟨1, _⟩ => show 0 * 1 + 1 * 0 = 0; omega
  · refine broadcastInDim_apply _ _ _ _ (ix1 i) fun a => ?_
    fin_cases a
    rfl

theorem stg2_eq (i : Fin 512) : stg2 (VR m) c (ix2 0 i) = argS m c (ix1 i) := by
  refine (show _ = VR m c main_v1 (ix2 0 i) from ?_).trans ((congrFun (at_v1 m c) _).trans ?_)
  · refine congrArg (VR m c main_v1) (funext fun a => Fin.ext ?_)
    match a with
    | ⟨0, _⟩ => show 0 * 1 + 1 * 0 = 0; omega
    | ⟨1, _⟩ => show 0 * 512 + 1 * i.val = i.val; omega
  · refine broadcastInDim_apply _ _ _ _ (ix1 i) fun a => ?_
    fin_cases a
    rfl

theorem stg3_eq (i : Fin 512) : stg3 (VR m) c (ix2 0 i) = argL m c (ix1 i) := by
  refine (show _ = VR m c main_v2 (ix2 0 i) from ?_).trans ((congrFun (at_v2 m c) _).trans ?_)
  · refine congrArg (VR m c main_v2) (funext fun a => Fin.ext ?_)
    match a with
    | ⟨0, _⟩ => show 0 * 1 + 1 * 0 = 0; omega
    | ⟨1, _⟩ => show 0 * 512 + 1 * i.val = i.val; omega
  · refine broadcastInDim_apply _ _ _ _ (ix1 i) fun a => ?_
    fin_cases a
    rfl

/-- The array of boxes when the sort has run. -/
theorem array_4 : (dats m 0 c).arrAt 4 cfg0.N = boxesOut (argB m c) (argS m c) := by
  refine (dats m 0 c).arrAt_eq_of_after_last 4 t0_0 (by decide +kernel) _ fun j => ?_
  blk_simp
  show (K0 c (stg0 (VR m) c) (stg1 (VR m) c) (stg2 (VR m) c) (stg3 (VR m) c)).1.1 j = _
  obtain ⟨r, k, rfl⟩ : ∃ (r : Fin 512) (k : Fin 4), j = ix2 r k := ⟨j 0, j 1, by funext a; fin_cases a <;> rfl⟩

  exact out_boxes c (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_scratch0) (Memref.isWhole_whole _) (Memref.whole cc0_scratch1) (Memref.isWhole_whole _) (stg0 (VR m) c) (stg1 (VR m) c) (stg2 (VR m) c) (stg3 (VR m) c) (fun i k => argB m c (ix2 i k)) (fun i => argS m c (ix1 i)) (stg0_eq m c) (stg1_eq m c) (stg2_eq m c) r k

/-- The array of labels when the sort has run. -/
theorem array_5 : (dats m 0 c).arrAt 5 cfg0.N = labelsOut (argB m c) (argS m c) (argL m c) := by
  refine (dats m 0 c).arrAt_eq_of_after_last 5 t0_0 (by decide +kernel) _ fun j => ?_
  blk_simp
  show (K0 c (stg0 (VR m) c) (stg1 (VR m) c) (stg2 (VR m) c) (stg3 (VR m) c)).1.2.1 j = _
  obtain ⟨r, k, rfl⟩ : ∃ (r : Fin 512) (k : Fin 1), j = ix2 r k := ⟨j 0, j 1, by funext a; fin_cases a <;> rfl⟩
  obtain rfl : k = 0 := Subsingleton.elim _ _
  exact out_labels c (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_scratch0) (Memref.isWhole_whole _) (Memref.whole cc0_scratch1) (Memref.isWhole_whole _) (stg0 (VR m) c) (stg1 (VR m) c) (stg2 (VR m) c) (stg3 (VR m) c) (fun i k => argB m c (ix2 i k)) (fun i => argS m c (ix1 i)) (fun i => argL m c (ix1 i)) (stg0_eq m c) (stg1_eq m c) (stg2_eq m c) (stg3_eq m c) r

/-- The array of scores when the sort has run. -/
theorem array_6 : (dats m 0 c).arrAt 6 cfg0.N = scoresOut (argB m c) (argS m c) := by
  refine (dats m 0 c).arrAt_eq_of_after_last 6 t0_0 (by decide +kernel) _ fun j => ?_
  blk_simp
  show (K0 c (stg0 (VR m) c) (stg1 (VR m) c) (stg2 (VR m) c) (stg3 (VR m) c)).1.2.2.1 j = _
  obtain ⟨r, k, rfl⟩ : ∃ (r : Fin 512) (k : Fin 1), j = ix2 r k := ⟨j 0, j 1, by funext a; fin_cases a <;> rfl⟩
  obtain rfl : k = 0 := Subsingleton.elim _ _
  exact out_scores c (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_scratch0) (Memref.isWhole_whole _) (Memref.whole cc0_scratch1) (Memref.isWhole_whole _) (stg0 (VR m) c) (stg1 (VR m) c) (stg2 (VR m) c) (stg3 (VR m) c) (fun i k => argB m c (ix2 i k)) (fun i => argS m c (ix1 i)) (stg0_eq m c) (stg1_eq m c) (stg2_eq m c) r

/-- The array of keep words when the sort has run. -/
theorem array_8 : (dats m 0 c).arrAt 8 cfg0.N = keepWords (argB m c) (argS m c) := by
  refine (dats m 0 c).arrAt_eq_of_after_last 8 t0_0 (by decide +kernel) _ fun j => ?_
  blk_simp
  show (K0 c (stg0 (VR m) c) (stg1 (VR m) c) (stg2 (VR m) c) (stg3 (VR m) c)).1.2.2.2.2.1 j = _
  obtain ⟨r, k, rfl⟩ : ∃ (r : Fin 512) (k : Fin 1), j = ix2 r k := ⟨j 0, j 1, by funext a; fin_cases a <;> rfl⟩
  obtain rfl : k = 0 := Subsingleton.elim _ _
  exact out_keep c (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_scratch0) (Memref.isWhole_whole _) (Memref.whole cc0_scratch1) (Memref.isWhole_whole _) (stg0 (VR m) c) (stg1 (VR m) c) (stg2 (VR m) c) (stg3 (VR m) c) (fun i k => argB m c (ix2 i k)) (fun i => argS m c (ix1 i)) (stg0_eq m c) (stg1_eq m c) (stg2_eq m c) r

/-- The keep bits after the host operations that follow the region. -/
theorem at_v6 : Pipeline.afterTail₀ cfgs (dats m) 0 (atRegion m) [hostOps1] c main_v6 = keepOut (argB m c) (argS m c) := by
  unfold Pipeline.afterTail₀
  simp only [List.flatten_cons, List.flatten_nil, List.append_nil]
  unfold hostOps1
  rw [StableHlo.after_cons, StableHlo.after_cons, StableHlo.after_cons, StableHlo.after_cons, StableHlo.after_nil,
    StableHlo.unary_result, StableHlo.binary_result, StableHlo.unary_result, StableHlo.unary_result_ne _ _ _ _ _ _ (by decide),
    StableHlo.nullary_result, StableHlo.nullary_result_ne _ _ _ _ (by decide)]
  have h : (Pipeline.withArrays (cfgs 0).spec c (atRegion m c) (fun w => (dats m 0 c).arrAt w (cfgs 0).N) (Proc.devRef .tc main_v3_4) : S512x1.Idx → BitVec 32)
      = keepWords (argB m c) (argS m c) :=
    (Pipeline.withArrays_arr (cfgs 0).spec (by decide) c _ _ 8).trans (array_8 m c)
  refine (congrArg (fun A : S512x1.Idx → BitVec 32 => (cmpi .ne A (broadcastInDim S512x1 ![] bcast_S_S512x1 (constantI S_ 32 0#32)) : S512x1.Idx → BitVec 1)) h).trans ?_
  funext x
  exact ne_flag _

/-- The sort runs; its results are those arrays, and its arguments end unchanged. -/
theorem run_sort (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3_0) = boxesOut (argB m c) (argS m c)
      ∧ r.2.mem ((c.tc : Thread nD τ).loc main_v3_1) = labelsOut (argB m c) (argS m c) (argL m c)
      ∧ r.2.mem ((c.tc : Thread nD τ).loc main_v3_2) = scoresOut (argB m c) (argS m c)
      ∧ r.2.mem ((c.tc : Thread nD τ).loc main_v6) = keepOut (argB m c) (argS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨((h.1 c).1 4).trans (array_4 m c), ((h.1 c).1 5).trans (array_5 m c), ((h.1 c).1 6).trans (array_6 m c),
    ((h.1 c).2 main_v6 (by decide)).trans (at_v6 m c), args_kept m r h.1 c⟩) (run m ρ)

end Cert.Proof.Sort
-- ==== Proof.SortOps.lean ====
/-
  The reference's operations read at an index: the sort of the negated scores, the gathers by the sort's positions, the slices at a
  counter and the update of one flag.
-/
module

public import proofs.«01_k».proof.Proof.Gen.SortedNmsIdeal.Run
public import proofs.«01_k».proof.Proof.Rows
public import proofs.«01_k».proof.Proof.Order
public import proofs.«01_k».proof.Proof.Greedy
public import proofs.«01_k».proof.Proof.SortSpec
public import Idealize.ShloMosaic.Lib.Pointwise
public import Idealize.ShloMosaic.Lib.Routing.OpsOne
public import Idealize.ShloMosaic.Lib.Routing.OpsOrder
public import Idealize.ShloMosaic.Lib.WordCmp
public import Idealize.ShloMosaic.Lib.SortFacts
public import Idealize.ShloMosaic.PureOps.Ideal.Laws

@[expose] public section

noncomputable section

namespace Cert.Proof.Sort

open Cert.SortedNmsIdeal Cert.SortedNmsIdeal.Gen

open Idealize.ShloMosaic Idealize.ShloMosaic.Tactic Idealize.ShloMosaic.Routing
open scoped Classical

/-- The comparison of the sort is the order of the extended reals. -/
theorem comparator_eq (l r : EReal × BitVec 32) : comparator_f32_i32_d0 (F := Ideal) l r = BitVec.ofBool (decide (l.1 < r.1)) := by
  have h0 : ∀ a : EReal, Scalar.select (FloatOps.cmpf (F := Ideal) (φ := .f32) .une a a) (FloatOps.ofBits (F := Ideal) .f32 0x7FC00000#32)
      (Scalar.select (FloatOps.cmpf (F := Ideal) (φ := .f32) .oeq a (FloatOps.ofBits (F := Ideal) .f32 0x00000000#32)) (FloatOps.ofBits (F := Ideal) .f32 0x00000000#32) a) = a := fun a => by
    have h1 : FloatOps.cmpf (F := Ideal) (φ := .f32) .une a a = 0#1 := by
      show BitVec.ofBool (decide (a ≠ a)) = 0#1
      simp
    have h2 : FloatOps.ofBits (F := Ideal) .f32 0x00000000#32 = (0 : EReal) := Ideal.ofBits_zero_f32
    rw [h1, h2]
    by_cases h : a = 0
    · subst h
      unfold Scalar.select
      simp
    · have h3 : FloatOps.cmpf (F := Ideal) (φ := .f32) .oeq a (0 : EReal) = 0#1 := by
        show BitVec.ofBool (decide (a = 0)) = 0#1
        simp [h]
      rw [h3]
      rfl
  unfold comparator_f32_i32_d0
  dsimp only
  rw [h0 l.1, h0 r.1]
  rfl

/-- The positions of the sort of the negated scores. -/
theorem sort_word (s : S512.Idx → EReal) (r : Fin 512) :
    (Host.sort2 S512 0 (comparator_f32_i32_d0 (F := Ideal)) (Host.negf (F := Ideal) (φ := .f32) s) (iotaInDim S512 32 0)).2 (ix1 r)
      = BitVec.ofNat 32 (sorted (fun i => s (ix1 i)) r).val := by
  have hd : 0 < S512.rank := by decide
  have e : ∀ (j : S512.Idx) (a : Fin 512), j.along ⟨0, hd⟩ a = ix1 a := fun j a => by
    funext b
    match b with
    | ⟨0, _⟩ => exact Function.update_self 0 a j
  unfold Host.sort2
  rw [dif_pos hd]
  dsimp only
  refine (congrArg (iotaInDim S512 32 0) (e _ _)).trans ?_
  show BitVec.ofNat 32 _ = _
  refine congrArg (fun k : Fin 512 => BitVec.ofNat 32 k.val) ?_
  unfold sorted
  refine congrFun (sortedFrom_congr _ _ fun k k' _ => ?_) r
  simp only [e, comparator_eq]
  show (BitVec.ofBool (decide (-(s (ix1 k)) < -(s (ix1 k')))) == 1#1) = decide (s (ix1 k') < s (ix1 k))
  by_cases h : s (ix1 k') < s (ix1 k) <;> simp [EReal.neg_lt_neg_iff, h]

/-- The positions as the reference hands them to a gather: negative ones read from the end. -/
abbrev wrap (w : IVec S512 32) : IVec S512x1 32 :=
  broadcastInDim S512x1 ![0] bcast_S512_S512x1_0 (select (cmpi .slt w (broadcastInDim S512 ![] bcast_S_S512 (constantI S_ 32 0#32)))
    (addi w (broadcastInDim S512 ![] bcast_S_S512 (constantI S_ 32 512#32))) w)

theorem wrap_at (w : IVec S512 32) (p : Fin 512 → Fin 512) (hw : ∀ r, w (ix1 r) = BitVec.ofNat 32 (p r).val) (r : Fin 512) :
    wrap w (ix2 r 0) = BitVec.ofNat 32 (p r).val := by
  have hlt : (w (ix1 r)).toNat < 512 := by
    rw [hw, BitVec.toNat_ofNat, Nat.mod_eq_of_lt (by omega)]
    exact (p r).isLt
  unfold wrap
  pointwise
  rw [wrapped_word _ hlt, hw]

/-- The gathers of rows and of entries. -/
theorem rows_at (w : IVec S512 32) (p : Fin 512 → Fin 512) (hw : ∀ r, w (ix1 r) = BitVec.ofNat 32 (p r).val) {α : Type} (x : S512x4.Idx → α) (r : Fin 512) (k : Fin 4) :
    Host.gather gather_S512x4_S512x1_S512x4_1_0_n_n_0_1_14 x (wrap w) (ix2 r k) = x (ix2 (p r) k) :=
  gather_row _ rfl rfl rfl rfl rfl x _ r k (p r) (wrap_at w p hw r) (by norm_num)

theorem entries_at (w : IVec S512 32) (p : Fin 512 → Fin 512) (hw : ∀ r, w (ix1 r) = BitVec.ofNat 32 (p r).val) {α : Type} (x : S512.Idx → α) (r : Fin 512) :
    Host.gather gather_S512_S512x1_S512_n_0_n_n_0_1_1 x (wrap w) (ix1 r) = x (ix1 (p r)) :=
  gather_take1 _ rfl rfl rfl rfl x _ r (p r) (wrap_at w p hw r) (by norm_num)

/-- A counter below 512, negative ones read from the end. -/
theorem wrapped_counter (i : Fin 512) : (select (cmpi .slt (fun _ => BitVec.ofNat 32 i.val) (constantI S_ 32 0#32)) (addi (fun _ => BitVec.ofNat 32 i.val) (constantI S_ 32 512#32))
    (fun _ => BitVec.ofNat 32 i.val) : IVec S_ 32) = fun _ => BitVec.ofNat 32 i.val := by
  funext x
  exact wrapped_word _ (by rw [BitVec.toNat_ofNat, Nat.mod_eq_of_lt (by omega)]; exact i.isLt)

/-- One flag, and one column, sliced at a counter. -/
theorem flag_at {α : Type} (x : S512.Idx → α) (st : Fin 1 → Int) (h) (hc) (i : Fin 512) (e : st 0 = (i.val : Int)) (z : S_.Idx) :
    shapeCast S_ (Host.dynamicSlice S1 x st h) hc z = x (ix1 i) := by
  have hi := i.isLt
  rw [WordCmp.dynamicSlice_eq_extract S1 x st h ![i.val] ⟨rfl, fun a => by fin_cases a; show i.val + 1 ≤ 512; omega⟩ (fun a => by fin_cases a; exact e)]
  have hz : ∀ y : S1.Idx → α, shapeCast S_ y hc z = y (ix1 0) := fun y => congrArg y (funext fun a => match a with | ⟨0, _⟩ => Subsingleton.elim (α := Fin 1) _ _)
  rw [hz]
  refine congrArg x (funext fun a => Fin.ext ?_)
  fin_cases a
  show i.val + 0 = i.val
  rfl

theorem column_at {α : Type} (x : S512x512.Idx → α) (st : Fin 2 → Int) (h) (hc) (i : Fin 512) (e0 : st 0 = 0) (e : st 1 = (i.val : Int)) (j : Fin 512) :
    shapeCast S512 (Host.dynamicSlice S512x1 x st h) hc (ix1 j) = x (ix2 j i) := by
  have hi := i.isLt
  rw [WordCmp.dynamicSlice_eq_extract S512x1 x st h ![0, i.val] ⟨rfl, fun a => by fin_cases a <;> [(show 0 + 512 ≤ 512; omega); (show i.val + 1 ≤ 512; omega)]⟩ (fun a => by fin_cases a; exacts [e0, e])]
  have hz : ∀ y : S512x1.Idx → α, shapeCast S512 y hc (ix1 j) = y (ix2 j 0) := fun y => by pointwise
  rw [hz]
  refine congrArg x (funext fun a => Fin.ext ?_)
  fin_cases a
  · show 0 + j.val = j.val
    omega
  · show i.val + 0 = i.val
    rfl

/-- The update of one flag. -/
theorem update_at (x : IVec S512 1) (idx : IVec S1 32) (u : IVec S_ 1) (i : Fin 512) (h : idx (ix1 0) = BitVec.ofNat 32 i.val) (r : Fin 512) :
    Host.scatter scatter_S512_S1_S__n_0_0_0 (fun _ b => b) x idx u (ix1 r) = if r = i then u ix0 else x (ix1 r) := by
  have hidx : (idx (ix1 0)).toInt = (i.val : Int) := by rw [h, StableHlo.Predicate.toInt_ofNat_small _ (by omega)]
  by_cases hr : r = i
  · rw [if_pos hr]
    exact scatter_set_hit _ x idx u _ _ (fun j _ => congrArg u (Subsingleton.elim _ _)) ix0 ((lands_one _ rfl rfl idx i hidx r).2 hr)
  · rw [if_neg hr]
    exact scatter_set_miss _ x idx u _ fun j hj => by
      obtain rfl := ValueIdx.eq_ix0 j
      exact hr ((lands_one _ rfl rfl idx i hidx r).1 hj)

end Cert.Proof.Sort
-- ==== Proof.SortStep.lean ====
/-
  One trip of the reference's loop: the flag at the counter stays set when no flag before it is set with an overlap of more than one half,
  and the other flags are as they were.
-/
module

public import proofs.«01_k».proof.Proof.SortOps

@[expose] public section

noncomputable section

namespace Cert.Proof.Sort

open Cert.SortedNmsIdeal Cert.SortedNmsIdeal.Gen Cert.SortedNmsIdeal.Value

open Idealize.ShloMosaic Idealize.ShloMosaic.Tactic Idealize.ShloMosaic.Routing Idealize.ShloMosaic.HostLoop
open scoped Classical

/-- Whether a flag before `i` is set with an overlap of more than one half, as the reference writes it. -/
abbrev struck (x : IVec S512 1) (i : Fin 512) (y : S512.Idx → EReal) : IVec S_ 1 :=
  Host.reduce IntOp.ori (andi (andi (cmpi .slt (iotaInDim S512 32 0) (broadcastInDim S512 ![] bcast_S_S512 (fun _ => BitVec.ofNat 32 i.val : IVec S_ 32))) x)
    (cmpf (F := Ideal) (φ := .f32) .ogt y (broadcastInDim S512 ![] bcast_S_S512 (constant (F := Ideal) S_ .f32 0x3F000000#32)))) (constantI S_ 1 0#1) reducesTo_S512_S_d0 h_S_

theorem bit_true (p : Prop) [Decidable p] : BitVec.ofBool (decide p) = 1#1 ↔ p := by by_cases h : p <;> simp [h]

theorem struck_iff (x : IVec S512 1) (i : Fin 512) (y : S512.Idx → EReal) :
    struck x i y ix0 = 1#1 ↔ ∃ j < i, x (ix1 j) = 1#1 ∧ half < y (ix1 j) := by
  unfold struck
  pointwise
  rw [fold_ori]
  have hand : ∀ a b : BitVec 1, IntOp.andi a b = 1#1 ↔ a = 1#1 ∧ b = 1#1 := by decide
  simp only [hand, Finset.mem_univ, true_and]
  refine exists_congr fun j => ?_
  rw [and_assoc]
  refine and_congr ?_ (and_congr Iff.rfl (bit_true _))
  have hi := i.isLt
  have hj := j.isLt
  show BitVec.ofBool ((BitVec.ofNat 32 j.val).slt (BitVec.ofNat 32 i.val)) = 1#1 ↔ j < i
  rw [BitVec.slt, StableHlo.Predicate.toInt_ofNat_small _ (by omega), StableHlo.Predicate.toInt_ofNat_small _ (by omega), Fin.lt_def]
  by_cases h : j.val < i.val <;> simp [h]

variable (V0 : Valuation τ sig (Elt Ideal)) (i : Fin 512)
  (h3 : V0 (Proc.devRef .tc main_v69_3) = fun _ => BitVec.ofNat 32 i.val) (h0 : V0 (Proc.devRef .tc main_v69_0) = iotaInDim S512 32 0)

theorem and_not (a b : BitVec 1) : IntOp.andi a (~~~b) = 1#1 ↔ a = 1#1 ∧ ¬ b = 1#1 := by
  revert a b
  decide

include h3 h0 in
theorem step_flags (keep : Fin 512 → Prop) (A : Fin 512 → Fin 512 → Prop)
    (hk : ∀ r, (V0 (Proc.devRef .tc main_v69_4) : IVec S512 1) (ix1 r) = 1#1 ↔ keep r)
    (hA : ∀ j i, half < (V0 (Proc.devRef .tc main_v69_1) : S512x512.Idx → EReal) (ix2 j i) ↔ A j i) (r : Fin 512) :
    (step_main_v69_4 V0 : IVec S512 1) (ix1 r) = 1#1 ↔ if r = i then keep i ∧ ∀ j < i, keep j → ¬ A j i else keep r := by
  unfold step_main_v69_4 res_main_while0b_v86
  rw [h3, h0]
  generalize V0 (Proc.devRef .tc main_v69_4) = x at hk ⊢
  generalize V0 (Proc.devRef .tc main_v69_1) = M at hA ⊢
  change S512x512.Idx → EReal at M
  simp only [id]
  refine Iff.trans (iff_of_eq (congrArg (· = 1#1) (update_at _ _ _ i (congrFun (wrapped_counter i) _) r))) ?_
  by_cases hr : r = i
  · subst hr
    rw [if_pos rfl, if_pos rfl]
    have hw := (congrArg BitVec.toInt (congrFun (wrapped_counter r) (Shape.Idx.first h_S_))).trans (StableHlo.Predicate.toInt_ofNat_small r.val (by omega))
    refine (and_not _ _).trans (and_congr ?_ ?_)
    · exact (iff_of_eq (congrArg (· = 1#1) (flag_at x _ _ _ r hw ix0))).trans (hk r)
    · refine (not_congr (struck_iff x r _)).trans ?_
      push Not
      refine forall_congr' fun j => forall_congr' fun _ => imp_congr (hk j) (not_lt.symm.trans (not_congr ?_))
      exact (iff_of_eq (congrArg (half < ·) (column_at M _ _ _ r rfl hw j))).trans (hA j r)
  · rw [if_neg hr, if_neg hr, hk]

/-- The loop's buffers after `k` trips: the places before `k` are decided, the others still hold whether their score is high enough. -/
theorem walk (V : Valuation τ sig (Elt Ideal)) (h0 : V (Proc.devRef .tc main_v69_0) = iotaInDim S512 32 0)
    (h3 : V (Proc.devRef .tc main_v69_3) = fun _ => BitVec.ofNat 32 0) (v : Fin 512 → Prop) (A : Fin 512 → Fin 512 → Prop)
    (hv : ∀ r, (V (Proc.devRef .tc main_v69_4) : IVec S512 1) (ix1 r) = 1#1 ↔ v r)
    (hA : ∀ j i, half < (V (Proc.devRef .tc main_v69_1) : S512x512.Idx → EReal) (ix2 j i) ↔ A j i) :
    ∀ k ≤ 512, STEP^[k] V (Proc.devRef .tc main_v69_0) = iotaInDim S512 32 0
      ∧ STEP^[k] V (Proc.devRef .tc main_v69_1) = V (Proc.devRef .tc main_v69_1)
      ∧ (STEP^[k] V (Proc.devRef .tc main_v69_3) = fun _ => BitVec.ofNat 32 k)
      ∧ ∀ r : Fin 512, (STEP^[k] V (Proc.devRef .tc main_v69_4) : IVec S512 1) (ix1 r) = 1#1 ↔ if r.val < k then kept v A r else v r
  | 0, _ => ⟨h0, rfl, h3, fun r => by rw [if_neg (Nat.not_lt_zero _)]; exact hv r⟩
  | k + 1, hk => by
    obtain ⟨e0, e1, e3, e4⟩ := walk V h0 h3 v A hv hA k (by omega)
    rw [Function.iterate_succ_apply']
    refine ⟨(STEP_main_v69_0 _).trans e0, (STEP_main_v69_1 _).trans e1, (STEP_main_v69_3 _).trans ?_, fun r => ?_⟩
    · unfold step_main_v69_3
      rw [e3]
      funext x
      exact (BitVec.ofNat_add _ _).symm
    · have hs := step_flags (STEP^[k] V) ⟨k, by omega⟩ e3 e0 _ A e4 (fun j i => by rw [e1]; exact hA j i) r
      refine Iff.trans (iff_of_eq (congrArg (fun x : IVec S512 1 => x (ix1 r) = 1#1) (STEP_main_v69_4 (STEP^[k] V)))) (hs.trans ?_)
      by_cases hr : r = ⟨k, by omega⟩
      · subst hr
        rw [if_pos rfl, if_pos (Nat.lt_succ_self k), if_neg (lt_irrefl k), kept_iff]
        refine and_congr Iff.rfl (forall_congr' fun j => forall_congr' fun hj => ?_)
        rw [if_pos (Fin.lt_def.mp hj)]
      · rw [if_neg hr]
        have hne : r.val ≠ k := fun h => hr (Fin.ext h)
        by_cases hlt : r.val < k
        · rw [if_pos hlt, if_pos (by omega)]
        · rw [if_neg hlt, if_neg (by omega)]

end Cert.Proof.Sort
-- ==== Proof.SortEntry.lean ====
/-
  The reference before its loop: the rows in the order of the scores, their corners, areas and overlaps.
-/
module

public import proofs.«01_k».proof.Proof.SortStep
public import Idealize.ShloMosaic.Lib.StableHlo.RunRead

@[expose] public section

noncomputable section

namespace Cert.Proof.Sort

open Cert.SortedNmsIdeal Cert.SortedNmsIdeal.Gen Cert.SortedNmsIdeal.Value

open Idealize.ShloMosaic Idealize.ShloMosaic.Tactic Idealize.ShloMosaic.Routing Idealize.ShloMosaic.HostLoop Idealize.ShloMosaic.StableHlo
open scoped Classical

/-- Entries of a square, a vector and the boxes, as extended reals. -/
abbrev sq (x : S512x512.Idx → EReal) (y : S512x512.Idx) : EReal := x y
abbrev vec (x : S512.Idx → EReal) (y : S512.Idx) : EReal := x y

/-- A vector spread over rows, and over columns. -/
theorem down_at {α : Type} (y : S512.Idx → α) (j i : Fin 512) :
    broadcastInDim S512x512 ![0, 1] bcast_S512x1_S512x512_0_1 (broadcastInDim S512x1 ![0] bcast_S512_S512x1_0 y) (ix2 j i) = y (ix1 j) := by
  pointwise
theorem across_at {α : Type} (y : S512.Idx → α) (j i : Fin 512) :
    broadcastInDim S512x512 ![0, 1] bcast_S1x512_S512x512_0_1 (broadcastInDim S1x512 ![1] bcast_S512_S1x512_1 y) (ix2 j i) = y (ix1 i) := by
  pointwise

/-- One column of the rows, as a vector. -/
theorem column_of {α : Type} (G : S512x4.Idx → α) (k : Fin 4) (sl : S512x4.Slices ![0, k.val] S512x1) (r : Fin 512) :
    shapeCast S512 (extractStridedSlice S512x1 ![0, k.val] G sl) shapeCasts_S512x1_S512 (ix1 r) = G (ix2 r k) := by
  have hz : ∀ y : S512x1.Idx → α, shapeCast S512 y shapeCasts_S512x1_S512 (ix1 r) = y (ix2 r 0) := fun y => by pointwise
  rw [hz]
  refine congrArg G (funext fun a => Fin.ext ?_)
  fin_cases a
  · show 0 + r.val = r.val
    omega
  · show k.val + 0 = k.val
    rfl

variable (V : Valuation τ sig (Elt Ideal))

/-- The rows, scores and labels gathered by the positions of the sort. -/
theorem second_rows : after hostOps0_2 V (Proc.devRef .tc main_v8)
    = Host.gather gather_S512x4_S512x1_S512x4_1_0_n_n_0_1_14 (V (Proc.devRef .tc main_arg0)) (wrap (V (Proc.devRef .tc main_v1))) := by
  after_reads_simp
theorem second_scores : after hostOps0_2 V (Proc.devRef .tc main_v15)
    = Host.gather gather_S512_S512x1_S512_n_0_n_n_0_1_1 (V (Proc.devRef .tc main_arg1)) (wrap (V (Proc.devRef .tc main_v1))) := by
  after_reads_simp
theorem second_labels : after hostOps0_2 V (Proc.devRef .tc main_v22)
    = Host.gather gather_S512_S512x1_S512_n_0_n_n_0_1_1 (V (Proc.devRef .tc main_arg2)) (wrap (V (Proc.devRef .tc main_v1))) := by
  after_reads_simp

variable (p : Fin 512 → Fin 512) (hw : ∀ r, (V (Proc.devRef .tc main_v1) : IVec S512 32) (ix1 r) = BitVec.ofNat 32 (p r).val)

/-- Coordinate `k` of the row at place `r`. -/
abbrev corner (k : Fin 4) (r : Fin 512) : EReal := (V (Proc.devRef .tc main_arg0) : S512x4.Idx → EReal) (ix2 (p r) k)

include hw in
/-- A column of the gathered rows. -/
theorem corner_at (k : Fin 4) (sl : S512x4.Slices ![0, k.val] S512x1) (r : Fin 512) :
    shapeCast S512 (extractStridedSlice S512x1 ![0, k.val] (Host.gather gather_S512x4_S512x1_S512x4_1_0_n_n_0_1_14 (V (Proc.devRef .tc main_arg0)) (wrap (V (Proc.devRef .tc main_v1)))) sl)
      shapeCasts_S512x1_S512 (ix1 r) = corner V p k r :=
  (column_of _ k sl r).trans (rows_at _ p hw _ r k)

include hw in
theorem second_width (j i : Fin 512) : (after hostOps0_2 V (Proc.devRef .tc main_v56) : S512x512.Idx → EReal) (ix2 j i)
    = min (corner V p 2 j) (corner V p 2 i) - max (corner V p 0 j) (corner V p 0 i) := by
  have hc := corner_at V p hw
  after_reads_simp
  exact congrArg₂ (fun a b : EReal => a - b)
    (congrArg₂ (fun a b : EReal => min a b) ((down_at _ j i).trans (hc 2 _ j)) ((across_at _ j i).trans (hc 2 _ i)))
    (congrArg₂ (fun a b : EReal => max a b) ((down_at _ j i).trans (hc 0 _ j)) ((across_at _ j i).trans (hc 0 _ i)))

include hw in
theorem second_bottom (j i : Fin 512) : (after hostOps0_2 V (Proc.devRef .tc main_v55) : S512x512.Idx → EReal) (ix2 j i)
    = min (corner V p 3 j) (corner V p 3 i) := by
  have hc := corner_at V p hw
  after_reads_simp
  exact congrArg₂ (fun a b : EReal => min a b) ((down_at _ j i).trans (hc 3 _ j)) ((across_at _ j i).trans (hc 3 _ i))

include hw in
theorem second_top (j i : Fin 512) : (after hostOps0_2 V (Proc.devRef .tc main_v45) : S512x512.Idx → EReal) (ix2 j i)
    = max (corner V p 1 j) (corner V p 1 i) := by
  have hc := corner_at V p hw
  after_reads_simp
  exact congrArg₂ (fun a b : EReal => max a b) ((down_at _ j i).trans (hc 1 _ j)) ((across_at _ j i).trans (hc 1 _ i))

include hw in
theorem second_area (r : Fin 512) : (after hostOps0_2 V (Proc.devRef .tc main_v35) : S512.Idx → EReal) (ix1 r)
    = (corner V p 2 r - corner V p 0 r) * (corner V p 3 r - corner V p 1 r) := by
  have hc := corner_at V p hw
  after_reads_simp
  exact congrArg₂ (fun a b : EReal => a * b) (congrArg₂ (fun a b : EReal => a - b) (hc 2 _ r) (hc 0 _ r)) (congrArg₂ (fun a b : EReal => a - b) (hc 3 _ r) (hc 1 _ r))

include hw in
theorem second_flag (r : Fin 512) : (after hostOps0_2 V (Proc.devRef .tc main_v24) : IVec S512 1) (ix1 r) = 1#1
    ↔ half < (V (Proc.devRef .tc main_arg1) : S512.Idx → EReal) (ix1 (p r)) := by
  have hs := entries_at _ p hw (V (Proc.devRef .tc main_arg1) : S512.Idx → EReal) r
  after_reads_simp
  exact (bit_true _).trans (iff_of_eq (congrArg (half < ·) hs))

theorem second_zero : after hostOps0_2 V (Proc.devRef .tc main_c_5) = constantI S_ 32 0#32 := by
  after_reads_simp

/-- The integer zero as a float, spread over a square. -/
theorem zero_at (x : S512x512.Idx → EReal) (y : S512x512.Idx) :
    maximumf (F := Ideal) (φ := .f32) (broadcastInDim S512x512 ![] bcast_S_S512x512 (sitofp (F := Ideal) .f32 (constantI S_ 32 0#32))) x y = max (x y) 0 := by
  have h : (((0#32 : BitVec 32).toInt : ℝ) : EReal) = 0 := by simp
  refine Eq.trans ?_ (max_comm _ _)
  exact congrArg (fun a : EReal => max a (x y)) h

theorem third (h : V (Proc.devRef .tc main_c_5) = constantI S_ 32 0#32) (y : S512x512.Idx) :
    (after hostOps0_3 V (Proc.devRef .tc main_v57) : S512x512.Idx → EReal) y = max (sq (V (Proc.devRef .tc main_v56)) y) 0 := by
  after_reads_simp
  rw [h]
  exact zero_at _ y

theorem fourth (y : S512x512.Idx) : (after hostOps0_4 V (Proc.devRef .tc main_v58) : S512x512.Idx → EReal) y
    = sq (V (Proc.devRef .tc main_v55)) y - sq (V (Proc.devRef .tc main_v45)) y := by
  after_reads_simp
  rfl

theorem fourth_zero : after hostOps0_4 V (Proc.devRef .tc main_c_6) = constantI S_ 32 0#32 := by
  after_reads_simp

theorem fifth (h : V (Proc.devRef .tc main_c_6) = constantI S_ 32 0#32) (y : S512x512.Idx) :
    (after hostOps0_5 V (Proc.devRef .tc main_v59) : S512x512.Idx → EReal) y = max (sq (V (Proc.devRef .tc main_v58)) y) 0 := by
  after_reads_simp
  rw [h]
  exact zero_at _ y

theorem sixth (j i : Fin 512) : (after hostOps0_6 V (Proc.devRef .tc main_v69_1) : S512x512.Idx → EReal) (ix2 j i)
    = Ideal.div (sq (V (Proc.devRef .tc main_v57)) (ix2 j i) * sq (V (Proc.devRef .tc main_v59)) (ix2 j i))
        (vec (V (Proc.devRef .tc main_v35)) (ix1 j) + vec (V (Proc.devRef .tc main_v35)) (ix1 i)
          - sq (V (Proc.devRef .tc main_v57)) (ix2 j i) * sq (V (Proc.devRef .tc main_v59)) (ix2 j i)) := by
  after_reads_simp
  exact congrArg₂ Ideal.div rfl (congrArg₂ (fun a b : EReal => a - b) (congrArg₂ (fun a b : EReal => a + b) (down_at _ j i) (across_at _ j i)) rfl)

theorem sixth_counter : after hostOps0_6 V (Proc.devRef .tc main_v69_3) = fun _ => BitVec.ofNat 32 0 := by
  after_reads_simp
  rfl
theorem sixth_places : after hostOps0_6 V (Proc.devRef .tc main_v69_0) = iotaInDim S512 32 0 := by
  after_reads_simp
  rfl
theorem sixth_flags : after hostOps0_6 V (Proc.devRef .tc main_v69_4) = V (Proc.devRef .tc main_v24) := by
  after_reads_simp
  rfl

/-- The positions of the sort. -/
theorem first_order (r : Fin 512) : (after hostOps0_1 (after hostOps0 V) (Proc.devRef .tc main_v1) : IVec S512 32) (ix1 r)
    = BitVec.ofNat 32 (sorted (fun i => vec (V (Proc.devRef .tc main_arg1)) (ix1 i)) r).val := by
  have h := sort_word (V (Proc.devRef .tc main_arg1)) r
  after_reads_simp
  simp only [TRef.toBuf, TRef.ofBuf]
  exact h

end Cert.Proof.Sort
-- ==== Proof.SortResult.lean ====
/-
  The reference after its loop: each row, label and score multiplied by its flag.
-/
module

public import proofs.«01_k».proof.Proof.SortEntry
public import proofs.«01_k».proof.Proof.SortBits

@[expose] public section

noncomputable section

namespace Cert.Proof.Sort

open Cert.SortedNmsIdeal Cert.SortedNmsIdeal.Gen Cert.SortedNmsIdeal.Value

open Idealize.ShloMosaic Idealize.ShloMosaic.Tactic Idealize.ShloMosaic.Routing Idealize.ShloMosaic.HostLoop Idealize.ShloMosaic.StableHlo
open scoped Classical

theorem bit_of_iff (b : BitVec 1) (p : Prop) (h : b = 1#1 ↔ p) : b = BitVec.ofBool (decide p) := by
  by_cases hp : p
  · rw [h.mpr hp]
    simp [hp]
  · have : b ≠ 1#1 := fun e => hp (h.mp e)
    simp only [hp, decide_false]
    clear h
    revert this
    revert b
    decide

/-- A flag as a float. -/
theorem float_flag (p : Prop) : FloatOps.uitofp (F := Ideal) .f32 (BitVec.ofBool (decide p)) = (if p then 1 else 0 : EReal) := by
  show (((BitVec.ofBool (decide p)).toNat : ℝ) : EReal) = _
  by_cases hp : p <;> simp [hp]

/-- A vector as one column. -/
theorem single_at {α : Type} (y : S512.Idx → α) (r : Fin 512) (z : Fin 1) : broadcastInDim S512x1 ![0] bcast_S512_S512x1_0 y (ix2 r z) = y (ix1 r) := by
  pointwise
theorem four_at {α : Type} (y : S512x1.Idx → α) (r : Fin 512) (k : Fin 4) : broadcastInDim S512x4 ![0, 1] bcast_S512x1_S512x4_0_1 y (ix2 r k) = y (ix2 r 0) := by
  pointwise

variable (V : Valuation τ sig (Elt Ideal)) (K : Fin 512 → Prop) (hk : ∀ r, (V (Proc.devRef .tc main_v69_4) : IVec S512 1) (ix1 r) = 1#1 ↔ K r)

include hk in
theorem last_boxes (r : Fin 512) (k : Fin 4) : (after hostOps0_7 V (Proc.devRef .tc main_v73) : S512x4.Idx → EReal) (ix2 r k)
    = (show EReal from V (Proc.devRef .tc main_v8) (ix2 r k)) * if K r then 1 else 0 := by
  have hb := bit_of_iff _ _ (hk r)
  after_reads_simp
  refine congrArg₂ (fun a b : EReal => a * b) rfl ((four_at _ r k).trans ?_)
  exact (congrArg (FloatOps.uitofp (F := Ideal) .f32) ((single_at _ r 0).trans hb)).trans (float_flag _)

include hk in
theorem last_labels (r : Fin 512) (z : Fin 1) : (after hostOps0_7 V (Proc.devRef .tc main_v78) : S512x1.Idx → BitVec 32) (ix2 r z)
    = (show BitVec 32 from V (Proc.devRef .tc main_v22) (ix1 r)) * flag (decide (K r)) := by
  have hb := bit_of_iff _ _ (hk r)
  after_reads_simp
  refine (single_at _ r z).trans ?_
  exact congrArg₂ (fun a b : BitVec 32 => a * b) rfl (congrArg (BitVec.setWidth 32) hb)

include hk in
theorem last_scores (r : Fin 512) (z : Fin 1) : (after hostOps0_7 V (Proc.devRef .tc main_v79) : S512x1.Idx → EReal) (ix2 r z)
    = (show EReal from V (Proc.devRef .tc main_v15) (ix1 r)) * if K r then 1 else 0 := by
  have hb := bit_of_iff _ _ (hk r)
  after_reads_simp
  refine (single_at _ r z).trans ?_
  exact congrArg₂ (fun a b : EReal => a * b) rfl ((congrArg (FloatOps.uitofp (F := Ideal) .f32) hb).trans (float_flag _))

include hk in
theorem last_keep (r : Fin 512) (z : Fin 1) : (after hostOps0_7 V (Proc.devRef .tc main_v80) : S512x1.Idx → BitVec 1) (ix2 r z)
    = BitVec.ofBool (decide (K r)) := by
  have hb := bit_of_iff _ _ (hk r)
  after_reads_simp
  exact (single_at _ r z).trans hb

end Cert.Proof.Sort
-- ==== Proof.SortRef.lean ====
/-
  The reference's whole run: its results are the functions of the boxes, scores and labels that the kernel's are.
-/
module

public import proofs.«01_k».proof.Proof.SortResult
public import proofs.«01_k».proof.Proof.SortOut

@[expose] public section

noncomputable section

namespace Cert.Proof.Sort.Ref

open Cert.SortedNmsIdeal Cert.SortedNmsIdeal.Gen Cert.SortedNmsIdeal.Value

open Idealize.ShloMosaic Idealize.SL.Sem Idealize.ShloMosaic.TcCoe Idealize.ShloMosaic.Tactic Idealize.ShloMosaic.HostLoop Idealize.ShloMosaic.StableHlo
open scoped Classical

variable (m : (ℓ : Loc nD τ sig) → Buf (Elt Ideal) ℓ) (c : Dev nD)

/-- The arguments read from memory. -/
abbrev boxes : S512x4.Idx → EReal := m ((c.tc : Thread nD τ).loc main_arg0)
abbrev scored : S512.Idx → EReal := m ((c.tc : Thread nD τ).loc main_arg1)
abbrev labels : S512.Idx → BitVec 32 := m ((c.tc : Thread nD τ).loc main_arg2)

/-- The boxes and scores by place. -/
abbrev bx : Fin 512 → Fin 4 → EReal := fun i k => boxes m c (ix2 i k)
abbrev sc : Fin 512 → EReal := fun i => scored m c (ix1 i)

/-- The buffers after the sort, and after the gathers. -/
abbrev ordered : Valuation τ sig (Elt Ideal) := after hostOps0_1 (after hostOps0 (launchContents m c))
abbrev gathered : Valuation τ sig (Elt Ideal) := after hostOps0_2 (ordered m c)

theorem ordered_kept (r : Ref sig .tc) (h : r ∉ (hostOps0_W ++ hostOps0_1_W : List (Ref sig .tc))) : ordered m c (Proc.devRef .tc r) = launchContents m c (Proc.devRef .tc r) :=
  (after_of_writes_sub hostOps0_1 _ hostOps0_1_writes fun hm => h (List.mem_append_right _ hm)).trans
    (after_of_writes_sub hostOps0 _ hostOps0_writes fun hm => h (List.mem_append_left _ hm))

theorem order_at (r : Fin 512) : (ordered m c (Proc.devRef .tc main_v1) : IVec S512 32) (ix1 r) = BitVec.ofNat 32 (sorted (sc m c) r).val :=
  first_order (launchContents m c) r

theorem corner_eq (k : Fin 4) : corner (ordered m c) (sorted (sc m c)) k = coord (bx m c) (sc m c) k := by
  funext r
  exact congrArg (fun A : S512x4.Idx → EReal => A (ix2 (sorted (sc m c) r) k)) (ordered_kept m c main_arg0 (by decide))

theorem ordered_scores : ordered m c (Proc.devRef .tc main_arg1) = scored m c := ordered_kept m c main_arg1 (by decide)
theorem ordered_labels : ordered m c (Proc.devRef .tc main_arg2) = labels m c := ordered_kept m c main_arg2 (by decide)

/-- The references written between the gathers and the loop. -/
abbrev later_W : List (Ref sig .tc) := hostOps0_3_W ++ (hostOps0_4_W ++ (hostOps0_5_W ++ hostOps0_6_W))

theorem entry_kept (r : Ref sig .tc) (h : r ∉ later_W) : entryContents preI m c (Proc.devRef .tc r) = gathered m c (Proc.devRef .tc r) := by
  have h3 : r ∉ hostOps0_3_W := fun hm => h (List.mem_append_left _ hm)
  have h4 : r ∉ hostOps0_4_W := fun hm => h (List.mem_append_right _ (List.mem_append_left _ hm))
  have h5 : r ∉ hostOps0_5_W := fun hm => h (List.mem_append_right _ (List.mem_append_right _ (List.mem_append_left _ hm)))
  have h6 : r ∉ hostOps0_6_W := fun hm => h (List.mem_append_right _ (List.mem_append_right _ (List.mem_append_right _ hm)))
  exact (after_of_writes_sub hostOps0_6 _ hostOps0_6_writes h6).trans <| (after_of_writes_sub hostOps0_5 _ hostOps0_5_writes h5).trans <|
    (after_of_writes_sub hostOps0_4 _ hostOps0_4_writes h4).trans (after_of_writes_sub hostOps0_3 _ hostOps0_3_writes h3)

/-- The overlaps as the loop finds them. -/
theorem entry_overlap (j i : Fin 512) : half < sq (entryContents preI m c (Proc.devRef .tc main_v69_1)) (ix2 j i) ↔ hits (bx m c) (sc m c) j i := by
  have hw := order_at m c
  set W2 := gathered m c with hW2
  set W3 := after hostOps0_3 W2 with hW3
  set W4 := after hostOps0_4 W3 with hW4
  set W5 := after hostOps0_5 W4 with hW5
  have e57 : W5 (Proc.devRef .tc main_v57) = W3 (Proc.devRef .tc main_v57) :=
    (after_of_writes_sub hostOps0_5 _ hostOps0_5_writes (by decide)).trans (after_of_writes_sub hostOps0_4 _ hostOps0_4_writes (by decide))
  have e35 : W5 (Proc.devRef .tc main_v35) = W2 (Proc.devRef .tc main_v35) :=
    ((after_of_writes_sub hostOps0_5 _ hostOps0_5_writes (by decide)).trans (after_of_writes_sub hostOps0_4 _ hostOps0_4_writes (by decide))).trans
      (after_of_writes_sub hostOps0_3 _ hostOps0_3_writes (by decide))
  have e55 : W3 (Proc.devRef .tc main_v55) = W2 (Proc.devRef .tc main_v55) := after_of_writes_sub hostOps0_3 _ hostOps0_3_writes (by decide)
  have e45 : W3 (Proc.devRef .tc main_v45) = W2 (Proc.devRef .tc main_v45) := after_of_writes_sub hostOps0_3 _ hostOps0_3_writes (by decide)
  have v57 : sq (W5 (Proc.devRef .tc main_v57)) (ix2 j i) = _ := (congrArg (fun A => sq A (ix2 j i)) e57).trans
    ((third W2 (second_zero _) (ix2 j i)).trans (congrArg (fun a : EReal => max a 0) (second_width _ _ hw j i)))
  have v59 : sq (W5 (Proc.devRef .tc main_v59)) (ix2 j i) = _ := (fifth W4 (fourth_zero _) (ix2 j i)).trans
    (congrArg (fun a : EReal => max a 0) ((fourth W3 (ix2 j i)).trans (congrArg₂ (fun a b : EReal => a - b)
      ((congrArg (fun A => sq A (ix2 j i)) e55).trans (second_bottom _ _ hw j i)) ((congrArg (fun A => sq A (ix2 j i)) e45).trans (second_top _ _ hw j i)))))
  have v35 : ∀ r, vec (W5 (Proc.devRef .tc main_v35)) (ix1 r) = _ := fun r => (congrArg (fun A => vec A (ix1 r)) e35).trans (second_area _ _ hw r)
  have hs := sixth W5 j i
  rw [v57, v59, v35 j, v35 i, corner_eq, corner_eq, corner_eq, corner_eq] at hs
  exact iff_of_eq (congrArg (half < ·) hs)

theorem entry_flag (r : Fin 512) : (entryContents preI m c (Proc.devRef .tc main_v69_4) : IVec S512 1) (ix1 r) = 1#1 ↔ scores (sc m c) r := by
  have e : entryContents preI m c (Proc.devRef .tc main_v69_4) = gathered m c (Proc.devRef .tc main_v24) :=
    (sixth_flags _).trans <| (after_of_writes_sub hostOps0_5 _ hostOps0_5_writes (by decide)).trans <|
      (after_of_writes_sub hostOps0_4 _ hostOps0_4_writes (by decide)).trans (after_of_writes_sub hostOps0_3 _ hostOps0_3_writes (by decide))
  refine (iff_of_eq (congrArg (fun A : IVec S512 1 => A (ix1 r) = 1#1) e)).trans ((second_flag (ordered m c) _ (order_at m c) r).trans ?_)
  unfold scores
  rw [ordered_scores m c]

/-- What the loop does not write is after it as before it. -/
theorem loop_kept (r : Ref sig .tc) (hc : r ∉ condOps_W) (hb : r ∉ while0Ops0_W) :
    ∀ k, atK m k c (Proc.devRef .tc r) = entryContents preI m c (Proc.devRef .tc r)
  | 0 => rfl
  | k + 1 => (after_of_writes_sub while0Ops0 _ while0Ops0_writes hb).trans ((after_of_writes_sub condOps _ condOps_writes hc).trans (loop_kept r hc hb k))

/-- The buffers the loop leaves. -/
abbrev looped : Valuation τ sig (Elt Ideal) := after condOps (atK m 512 c)

theorem looped_kept (r : Ref sig .tc) (hc : r ∉ condOps_W) (hb : r ∉ while0Ops0_W) (h : r ∉ later_W) :
    looped m c (Proc.devRef .tc r) = gathered m c (Proc.devRef .tc r) :=
  (after_of_writes_sub condOps _ condOps_writes hc).trans ((loop_kept m c r hc hb 512).trans (entry_kept m c r h))

theorem looped_flag (r : Fin 512) : (looped m c (Proc.devRef .tc main_v69_4) : IVec S512 1) (ix1 r) = 1#1 ↔ keeps (bx m c) (sc m c) r := by
  have e : looped m c (Proc.devRef .tc main_v69_4) = STEP^[512] (entryContents preI m c) (Proc.devRef .tc main_v69_4) :=
    (cond_keeps _ main_v69_4 (by decide)).trans (atK_agree m c 512 main_v69_4 (by decide))
  obtain ⟨-, -, -, h⟩ := walk (entryContents preI m c) (sixth_places _) (sixth_counter _) (scores (sc m c)) (hits (bx m c) (sc m c))
    (entry_flag m c) (entry_overlap m c) 512 le_rfl
  refine (iff_of_eq (congrArg (fun A : IVec S512 1 => A (ix1 r) = 1#1) e)).trans ((h r).trans ?_)
  rw [if_pos r.isLt]
  exact Iff.rfl

/-- The gathered rows, scores and labels after the loop. -/
theorem looped_box (r : Fin 512) (k : Fin 4) : (looped m c (Proc.devRef .tc main_v8) : S512x4.Idx → EReal) (ix2 r k) = coord (bx m c) (sc m c) k r :=
  (congrArg (fun A : S512x4.Idx → EReal => A (ix2 r k)) ((looped_kept m c main_v8 (by decide) (by decide) (by decide)).trans (second_rows _))).trans
    ((rows_at _ _ (order_at m c) _ r k).trans (congrFun (corner_eq m c k) r))
theorem looped_score (r : Fin 512) : (looped m c (Proc.devRef .tc main_v15) : S512.Idx → EReal) (ix1 r) = scored m c (ix1 (sorted (sc m c) r)) :=
  (congrArg (fun A : S512.Idx → EReal => A (ix1 r)) ((looped_kept m c main_v15 (by decide) (by decide) (by decide)).trans (second_scores _))).trans
    ((entries_at _ _ (order_at m c) _ r).trans (congrArg (fun A : S512.Idx → EReal => A (ix1 (sorted (sc m c) r))) (ordered_scores m c)))
theorem looped_label (r : Fin 512) : (looped m c (Proc.devRef .tc main_v22) : S512.Idx → BitVec 32) (ix1 r) = labels m c (ix1 (sorted (sc m c) r)) :=
  (congrArg (fun A : S512.Idx → BitVec 32 => A (ix1 r)) ((looped_kept m c main_v22 (by decide) (by decide) (by decide)).trans (second_labels _))).trans
    ((entries_at _ _ (order_at m c) _ r).trans (congrArg (fun A : S512.Idx → BitVec 32 => A (ix1 (sorted (sc m c) r))) (ordered_labels m c)))

/-- The four results, from the buffers the loop leaves. -/
theorem result_boxes : after hostOps0_7 (looped m c) (Proc.devRef .tc main_v73) = boxesOut (boxes m c) (scored m c) := by
  funext x
  obtain ⟨r, k, rfl⟩ : ∃ r k, x = ix2 r k := ⟨x 0, x 1, eq_ix2 x⟩
  exact (last_boxes _ _ (looped_flag m c) r k).trans (congrArg (fun a : EReal => a * if keeps (bx m c) (sc m c) r then 1 else 0) (looped_box m c r k))
theorem result_labels : after hostOps0_7 (looped m c) (Proc.devRef .tc main_v78) = labelsOut (boxes m c) (scored m c) (labels m c) := by
  funext x
  obtain ⟨r, k, rfl⟩ : ∃ r k, x = ix2 r k := ⟨x 0, x 1, eq_ix2 x⟩
  exact (last_labels _ _ (looped_flag m c) r k).trans (congrArg (fun a : BitVec 32 => a * flag (decide (keeps (bx m c) (sc m c) r))) (looped_label m c r))
theorem result_scores : after hostOps0_7 (looped m c) (Proc.devRef .tc main_v79) = scoresOut (boxes m c) (scored m c) := by
  funext x
  obtain ⟨r, k, rfl⟩ : ∃ r k, x = ix2 r k := ⟨x 0, x 1, eq_ix2 x⟩
  exact (last_scores _ _ (looped_flag m c) r k).trans (congrArg (fun a : EReal => a * if keeps (bx m c) (sc m c) r then 1 else 0) (looped_score m c r))
theorem result_keep : after hostOps0_7 (looped m c) (Proc.devRef .tc main_v80) = keepOut (boxes m c) (scored m c) := by
  funext x
  obtain ⟨r, k, rfl⟩ : ∃ r k, x = ix2 r k := ⟨x 0, x 1, eq_ix2 x⟩
  exact last_keep _ _ (looped_flag m c) r k

/-- What nothing writes is at the end as at the launch. -/
theorem arg_kept (r : Ref sig .tc) (ho : r ∉ (hostOps0_W ++ hostOps0_1_W : List (Ref sig .tc))) (hg : r ∉ hostOps0_2_W) (hl : r ∉ later_W)
    (hc : r ∉ condOps_W) (hb : r ∉ while0Ops0_W) (he : after hostOps0_7 (looped m c) (Proc.devRef .tc r) = looped m c (Proc.devRef .tc r)) :
    after hostOps0_7 (looped m c) (Proc.devRef .tc r) = m ((c.tc : Thread nD τ).loc r) :=
  he.trans ((looped_kept m c r hc hb hl).trans ((after_of_writes_sub hostOps0_2 _ hostOps0_2_writes hg).trans (ordered_kept m c r ho)))

theorem kept_boxes : after hostOps0_7 (looped m c) (Proc.devRef .tc main_arg0) = m ((c.tc : Thread nD τ).loc main_arg0) :=
  arg_kept m c main_arg0 (by decide) (by decide) (by decide) (by decide) (by decide) (by after_reads_simp)
theorem kept_scores : after hostOps0_7 (looped m c) (Proc.devRef .tc main_arg1) = m ((c.tc : Thread nD τ).loc main_arg1) :=
  arg_kept m c main_arg1 (by decide) (by decide) (by decide) (by decide) (by decide) (by after_reads_simp)
theorem kept_labels : after hostOps0_7 (looped m c) (Proc.devRef .tc main_arg2) = m ((c.tc : Thread nD τ).loc main_arg2) :=
  arg_kept m c main_arg2 (by decide) (by decide) (by decide) (by decide) (by decide) (by after_reads_simp)

/-- The whole run of the reference. -/
theorem run_nms (ρ : Dev nD → PrngReg) :
    θ_run (defs (F := Ideal)) (onTc (τ := τ) (main (F := Ideal))) ⟨m, fun _ => 0, ρ⟩ (fun r => ∀ c : Dev nD,
      r.2.mem ((c.tc : Thread nD τ).loc main_v73) = boxesOut (boxes m c) (scored m c)
      ∧ r.2.mem ((c.tc : Thread nD τ).loc main_v78) = labelsOut (boxes m c) (scored m c) (labels m c)
      ∧ r.2.mem ((c.tc : Thread nD τ).loc main_v79) = scoresOut (boxes m c) (scored m c)
      ∧ r.2.mem ((c.tc : Thread nD τ).loc main_v80) = keepOut (boxes m c) (scored m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨(h c main_v73 rfl).trans (result_boxes m c), (h c main_v78 rfl).trans (result_labels m c),
    (h c main_v79 rfl).trans (result_scores m c), (h c main_v80 rfl).trans (result_keep m c),
    (h c main_arg0 rfl).trans (kept_boxes m c), (h c main_arg1 rfl).trans (kept_scores m c), (h c main_arg2 rfl).trans (kept_labels m c)⟩) (run_fold m ρ)

/-- The reference's frame. -/
theorem frame_nms (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2.2.2, funext fun g => nomatch g.2⟩) (run_nms m ρ)

end Cert.Proof.Sort.Ref
-- ==== Proof.lean ====
/-
  The proof of the claim: the frames of the gather, of the sorted suppression and of their references, and that each idealized call and
  its reference, run on the same arguments, end with the same arrays.
-/
module

public import proofs.«01_k».proof.Defs
public import proofs.«01_k».proof.Proof.Gen.MaskGather.Frame
public import proofs.«01_k».proof.Proof.Value
public import proofs.«01_k».proof.Proof.SortFrame
public import proofs.«01_k».proof.Proof.SortOut
public import proofs.«01_k».proof.Proof.SortRef

@[expose] public section

noncomputable section

namespace Cert.Proof

open Idealize.ShloMosaic Idealize.ShloMosaic.TcCoe Idealize.SL.Sem

/-- The gather's frame. -/
theorem frame_bits : quiescent_MaskGather (hMaskGather := MaskGather.Gen.facts) (hPre_in_range := Pre_in_range.Gen.facts) :=
  fun m ρ h => MaskGather.Gen.frame m ρ (ok_bits _ fun x => lt_of_in_range _ _ _ (h 0) x)

/-- The idealized gather's frame. -/
theorem frame_ideal : quiescent_MaskGatherIdeal (hMaskGatherIdeal := MaskGatherIdeal.Gen.facts) (hPre_in_range := Pre_in_range.Gen.facts) :=
  fun m ρ h => MaskGatherIdeal.Gen.frame m ρ (ok_ideal _ fun x => lt_of_in_range _ _ _ (h 0) x)

/-- The idealized gather and the reference's rows end with the same array. -/
theorem same_rows : algebraic_MaskGatherIdeal_MaskRowsIdeal (hMaskGatherIdeal := MaskGatherIdeal.Gen.facts)
    (hMaskRowsIdeal := MaskRowsIdeal.Gen.facts) (hPre_in_range := Pre_in_range.Gen.facts) := by
  intro m g m' g' hpre hagree
  have hlt : ∀ (c : Dev MaskGatherIdeal.nD) (x : MaskGatherIdeal.S512.Idx),
      ((m ((c.tc : Thread MaskGatherIdeal.nD MaskGatherIdeal.τ).loc MaskGatherIdeal.main_arg0) : MaskGatherIdeal.S512.Idx → BitVec 32) x).toNat < 512 :=
    fun c x => lt_of_in_range _ _ _ (hpre c) x
  refine ⟨fun c => rows (F := Ideal) (m ((c.tc : Thread _ _).loc MaskGatherIdeal.main_arg0)) (m ((c.tc : Thread _ _).loc MaskGatherIdeal.main_arg1))
    (m ((c.tc : Thread _ _).loc MaskGatherIdeal.main_arg2)), run_gather m g (ok_ideal _ (hlt 0)) (hlt 0), ?_⟩
  refine (θ_run _ _ _).mono (fun r h c => ?_) (run_rows m' g' fun c x => ?_)
  · obtain ⟨h0, hrest⟩ := h c
    obtain ⟨a0, a1, a2⟩ := hagree c
    rw [a0, a1, a2] at h0
    exact ⟨h0, hrest⟩
  · rw [(hagree c).1]
    exact hlt c x

/-- The idealized suppression and its reference end with the same boxes, labels, scores and flags. -/
theorem same_nms : algebraic_NmsSortIdeal_SortedNmsIdeal (hNmsSortIdeal := NmsSortIdeal.Gen.facts) (hSortedNmsIdeal := SortedNmsIdeal.Gen.facts) := by
  intro m g m' g' _ hagree
  refine ⟨_, _, _, _, Sort.run_sort m g, (θ_run _ _ _).mono (fun r h c => ?_) (Sort.Ref.run_nms m' g')⟩
  obtain ⟨h0, h1, h2, h3, hrest⟩ := h c
  obtain ⟨a0, a1, a2⟩ := hagree c
  unfold Sort.Ref.boxes Sort.Ref.scored at h0 h1 h2 h3
  unfold Sort.Ref.labels at h1
  rw [a0, a1] at h0 h1 h2 h3
  rw [a2] at h1
  exact ⟨h0, h1, h2, h3, hrest⟩

theorem claim : Cert.Claim :=
  ⟨MaskGather.Gen.facts, MaskGatherIdeal.Gen.facts, MaskRowsIdeal.Gen.facts, NmsSort.Gen.facts, NmsSortIdeal.Gen.facts, SortedNmsIdeal.Gen.facts, Pre_in_range.Gen.facts,
    frame_bits, frame_ideal, fun m ρ _ => frame_rows m ρ, fun m ρ _ => frame_rows m ρ, Sort.frame_bits, Sort.frame_ideal, fun m ρ _ => Sort.Ref.frame_nms m ρ,
    trivial, same_rows, trivial, same_nms⟩

end Cert.Proof
